-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_identity_lut [hPre_identity_lut : Cert.Pre_identity_lut.Facts] (m : (ℓ : Loc Cert.KernelIdeal.nD Cert.KernelIdeal.τ Cert.KernelIdeal.sig) → Buf (Elt Ideal) ℓ) : Prop :=
  ∀ c : Dev Cert.KernelIdeal.nD,
    (Cert.Pre_identity_lut.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_identity_lut [hPre_identity_lut : Cert.Pre_identity_lut.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_identity_lut.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_identity_lut [hKernelIdeal : Cert.KernelIdeal.Facts] [hPre_identity_lut : Cert.Pre_identity_lut.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_identity_lut m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_identity_lut [hReferenceIdeal : Cert.ReferenceIdeal.Facts] [hPre_identity_lut : Cert.Pre_identity_lut.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_identity_lut m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_63" .f32 0x3C820821#32 ((1 / 63 : ℝ) : EReal)

def algebraic_KernelIdeal_ReferenceIdeal_pre_identity_lut [hKernelIdeal : Cert.KernelIdeal.Facts] [hReferenceIdeal : Cert.ReferenceIdeal.Facts] [hPre_identity_lut : Cert.Pre_identity_lut.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_identity_lut m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v269) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_identity_lut : Cert.Pre_identity_lut.Facts),
    quiescent_Kernel (hKernel := hKernel)
    ∧ quiescent_KernelIdeal (hKernelIdeal := hKernelIdeal)
    ∧ quiescent_KernelIdeal_pre_identity_lut (hKernelIdeal := hKernelIdeal) (hPre_identity_lut := hPre_identity_lut)
    ∧ quiescent_ReferenceIdeal (hReferenceIdeal := hReferenceIdeal)
    ∧ quiescent_ReferenceIdeal_pre_identity_lut (hReferenceIdeal := hReferenceIdeal) (hPre_identity_lut := hPre_identity_lut)
    ∧ preserves_Kernel_KernelIdeal
    ∧ algebraic_KernelIdeal_ReferenceIdeal_pre_identity_lut (hKernelIdeal := hKernelIdeal) (hReferenceIdeal := hReferenceIdeal) (hPre_identity_lut := hPre_identity_lut)
-- ==== Pre_identity_lut.lean ====
abbrev S2x1080x1920x3 : Shape := ⟨4, ![2, 1080, 1920, 3]⟩
abbrev S64x64x64x3 : Shape := ⟨4, ![64, 64, 64, 3]⟩
abbrev S_ : Shape := ⟨0, ![]⟩
abbrev S63 : Shape := ⟨1, ![63]⟩
abbrev S1 : Shape := ⟨1, ![1]⟩
abbrev S64 : Shape := ⟨1, ![64]⟩
abbrev S64x64x64 : Shape := ⟨3, ![64, 64, 64]⟩
abbrev S64x64x64x1 : Shape := ⟨4, ![64, 64, 64, 1]⟩

class Facts : Prop where
  bcast_S_S63 : S_.BroadcastsInDim S63 (![] : Fin 0 → Fin S63.rank)
  shapeCasts_S_S1 : S_.ShapeCasts S1
  bcast_S1_S63_0 : S1.BroadcastsInDim S63 (![0] : Fin 1 → Fin S63.rank)
  bcast_S_S1 : S_.BroadcastsInDim S1 (![] : Fin 0 → Fin S1.rank)
  concatenates_S63_S1_S64_d0 : Shape.Concatenates [S63, S1] S64 0
  bcast_S64_S64x64x64_0 : S64.BroadcastsInDim S64x64x64 (![0] : Fin 1 → Fin S64x64x64.rank)
  bcast_S64_S64x64x64_1 : S64.BroadcastsInDim S64x64x64 (![1] : Fin 1 → Fin S64x64x64.rank)
  bcast_S64_S64x64x64_2 : S64.BroadcastsInDim S64x64x64 (![2] : Fin 1 → Fin S64x64x64.rank)
  bcast_S64x64x64_S64x64x64x1_0_1_2 : S64x64x64.BroadcastsInDim S64x64x64x1 (![0, 1, 2] : Fin 3 → Fin S64x64x64x1.rank)
  concatenates_S64x64x64x1_S64x64x64x1_S64x64x64x1_S64x64x64x3_d3 : Shape.Concatenates [S64x64x64x1, S64x64x64x1, S64x64x64x1] S64x64x64x3 3

variable [Facts]

def fn_linspace {F : FTy → Type} [FloatOps F] (arg0 : FVec F S_ .f32) (arg1 : FVec F S_ .f32) : FVec F S64 .f32 :=
  let v0 : FVec F S_ .f32 := id arg0
  let v1 : FVec F S_ .f32 := id arg1
  let v2 : FVec F S_ .f32 := subf v1 v0
  let cst : FVec F S_ .f32 := constant S_ .f32 0x427C0000#32
  let v3 : FVec F S_ .f32 := Host.divf v2 cst
  let v4 : FVec F S63 .f32 := sitofp .f32 (iotaInDim S63 32 0)
  let cst_0 : FVec F S_ .f32 := constant S_ .f32 0x427C0000#32
  let v5 : FVec F S63 .f32 := broadcastInDim S63 ![] bcast_S_S63 cst_0
  let v6 : FVec F S63 .f32 := Host.divf v4 v5
  let v7 : FVec F S1 .f32 := shapeCast S1 v0 shapeCasts_S_S1
  let cst_1 : FVec F S_ .f32 := constant S_ .f32 0x3F800000#32
  let v8 : FVec F S63 .f32 := broadcastInDim S63 ![] bcast_S_S63 cst_1
  let v9 : FVec F S63 .f32 := subf v8 v6
  let v10 : FVec F S63 .f32 := broadcastInDim S63 ![0] bcast_S1_S63_0 v7
  let v11 : FVec F S63 .f32 := mulf v10 v9
  let v12 : FVec F S1 .f32 := shapeCast S1 v1 shapeCasts_S_S1
  let v13 : FVec F S63 .f32 := broadcastInDim S63 ![0] bcast_S1_S63_0 v12
  let v14 : FVec F S63 .f32 := mulf v13 v6
  let v15 : FVec F S63 .f32 := addf v11 v14
  let v16 : FVec F S1 .f32 := broadcastInDim S1 ![] bcast_S_S1 v1
  let v17 : FVec F S64 .f32 := (fun a b => concatenate S64 0 [⟨S63, a⟩, ⟨S1, b⟩] concatenates_S63_S1_S64_d0) v15 v16
  v17

def fn {F : FTy → Type} [FloatOps F] (main_arg0 : FVec F S2x1080x1920x3 .f32) (main_arg1 : FVec F S64x64x64x3 .f32) : IVec S64x64x64x3 1 :=
  let main_cst : FVec F S_ .f32 := constant S_ .f32 0x00000000#32
  let main_cst_0 : FVec F S_ .f32 := constant S_ .f32 0x3F800000#32
  let main_v0 : FVec F S64 .f32 := fn_linspace (F := F) main_cst main_cst_0
  let main_v1 : FVec F S64x64x64 .f32 := broadcastInDim S64x64x64 ![0] bcast_S64_S64x64x64_0 main_v0
  let main_v2 : FVec F S64x64x64 .f32 := broadcastInDim S64x64x64 ![1] bcast_S64_S64x64x64_1 main_v0
  let main_v3 : FVec F S64x64x64 .f32 := broadcastInDim S64x64x64 ![2] bcast_S64_S64x64x64_2 main_v0
  let main_v4 : FVec F S64x64x64x1 .f32 := broadcastInDim S64x64x64x1 ![0, 1, 2] bcast_S64x64x64_S64x64x64x1_0_1_2 main_v1
  let main_v5 : FVec F S64x64x64x1 .f32 := broadcastInDim S64x64x64x1 ![0, 1, 2] bcast_S64x64x64_S64x64x64x1_0_1_2 main_v2
  let main_v6 : FVec F S64x64x64x1 .f32 := broadcastInDim S64x64x64x1 ![0, 1, 2] bcast_S64x64x64_S64x64x64x1_0_1_2 main_v3
  let main_v7 : FVec F S64x64x64x3 .f32 := concatenate S64x64x64x3 3 [⟨S64x64x64x1, main_v4⟩, ⟨S64x64x64x1, main_v5⟩, ⟨S64x64x64x1, main_v6⟩] concatenates_S64x64x64x1_S64x64x64x1_S64x64x64x1_S64x64x64x3_d3
  let main_v8 : IVec S64x64x64x3 1 := cmpf .oeq main_arg1 main_v7
  main_v8
-- ==== Kernel.lean ====
abbrev S2x1080x1920x3 : Shape := ⟨4, ![2, 1080, 1920, 3]⟩
abbrev S64x64x64x3 : Shape := ⟨4, ![64, 64, 64, 3]⟩
abbrev S3x3 : Shape := ⟨2, ![3, 3]⟩
abbrev S384x384 : Shape := ⟨2, ![384, 384]⟩
abbrev S32400x384 : Shape := ⟨2, ![32400, 384]⟩
abbrev S3x3x1 : Shape := ⟨3, ![3, 3, 1]⟩
abbrev S1x3x3 : Shape := ⟨3, ![1, 3, 3]⟩
abbrev S3x3x3 : Shape := ⟨3, ![3, 3, 3]⟩
abbrev S_ : Shape := ⟨0, ![]⟩
abbrev S128x128 : Shape := ⟨2, ![128, 128]⟩
abbrev S128x1x128x1 : Shape := ⟨4, ![128, 1, 128, 1]⟩
abbrev S1x3x1x3 : Shape := ⟨4, ![1, 3, 1, 3]⟩
abbrev S128x3x128x3 : Shape := ⟨4, ![128, 3, 128, 3]⟩
abbrev S648x384 : Shape := ⟨2, ![648, 384]⟩

abbrev nBuf : Space → Nat
  | .hbm => 29
  | .vmem => 6
  | .smem => 0
  | _ => 0

abbrev bufTy : (tb : Table) → Fin (tcTables nBuf tb) → BufTy
  | .hbm, ⟨0, _⟩ => ⟨S2x1080x1920x3, .f32⟩
  | .hbm, ⟨1, _⟩ => ⟨S64x64x64x3, .f32⟩
  | .hbm, ⟨2, _⟩ => ⟨S3x3, .f32⟩
  | .hbm, ⟨3, _⟩ => ⟨S3x3, .f32⟩
  | .hbm, ⟨4, _⟩ => ⟨S384x384, .f32⟩
  | .hbm, ⟨5, _⟩ => ⟨S32400x384, .f32⟩
  | .hbm, ⟨6, _⟩ => ⟨S3x3x1, .f32⟩
  | .hbm, ⟨7, _⟩ => ⟨S1x3x3, .f32⟩
  | .hbm, ⟨8, _⟩ => ⟨S3x3x3, .f32⟩
  | .hbm, ⟨9, _⟩ => ⟨S3x3x3, .f32⟩
  | .hbm, ⟨10, _⟩ => ⟨S3x3x3, .f32⟩
  | .hbm, ⟨11, _⟩ => ⟨S_, .f32⟩
  | .hbm, ⟨12, _⟩ => ⟨S3x3, .f32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S128x128, .f32⟩
  | .hbm, ⟨20, _⟩ => ⟨S3x3, .f32⟩
  | .hbm, ⟨21, _⟩ => ⟨S128x1x128x1, .f32⟩
  | .hbm, ⟨22, _⟩ => ⟨S1x3x1x3, .f32⟩
  | .hbm, ⟨23, _⟩ => ⟨S128x3x128x3, .f32⟩
  | .hbm, ⟨24, _⟩ => ⟨S128x3x128x3, .f32⟩
  | .hbm, ⟨25, _⟩ => ⟨S128x3x128x3, .f32⟩
  | .hbm, ⟨26, _⟩ => ⟨S384x384, .f32⟩
  | .hbm, ⟨27, _⟩ => ⟨S32400x384, .f32⟩
  | .hbm, ⟨28, _⟩ => ⟨S2x1080x1920x3, .f32⟩
  | .local _ .vmem, ⟨0, _⟩ => ⟨S648x384, .f32⟩
  | .local _ .vmem, ⟨1, _⟩ => ⟨S648x384, .f32⟩
  | .local _ .vmem, ⟨2, _⟩ => ⟨S384x384, .f32⟩
  | .local _ .vmem, ⟨3, _⟩ => ⟨S384x384, .f32⟩
  | .local _ .vmem, ⟨4, _⟩ => ⟨S648x384, .f32⟩
  | .local _ .vmem, ⟨5, _⟩ => ⟨S648x384, .f32⟩
  | _, _ => ⟨S2x1080x1920x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_cst_0 : Ref sig .tc := ⟨.hbm, 3, rfl⟩
abbrev main_call0_cst_1 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_cst_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_v14 : Ref sig .tc := ⟨.hbm, 26, rfl⟩
abbrev main_call0_v15 : Ref sig .tc := ⟨.hbm, 27, rfl⟩
abbrev main_v0 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S648x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S648x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_63" => some ((1 / 63 : ℝ) : EReal)
  | _ => none
-- ==== ReferenceIdeal.lean ====
abbrev S2x1080x1920x3 : Shape := ⟨4, ![2, 1080, 1920, 3]⟩
abbrev S64x64x64x3 : Shape := ⟨4, ![64, 64, 64, 3]⟩
abbrev S3x3 : Shape := ⟨2, ![3, 3]⟩
abbrev S_ : Shape := ⟨0, ![]⟩
abbrev S4147200x3 : Shape := ⟨2, ![4147200, 3]⟩
abbrev S4147200x1 : Shape := ⟨2, ![4147200, 1]⟩
abbrev S4147200 : Shape := ⟨1, ![4147200]⟩

abbrev nBuf : Space → Nat
  | .hbm => 372
  | .vmem => 0
  | .smem => 0
  | _ => 0

abbrev hbmTy0_0 (i : Nat) : BufTy := match i % 128 with
  | 0 => ⟨S2x1080x1920x3, .f32⟩
  | 1 => ⟨S64x64x64x3, .f32⟩
  | 2 => ⟨S3x3, .f32⟩
  | 3 => ⟨S3x3, .f32⟩
  | 4 => ⟨S3x3, .f32⟩
  | 5 => ⟨S3x3, .f32⟩
  | 6 => ⟨S2x1080x1920x3, .f32⟩
  | 7 => ⟨S_, .f32⟩
  | 8 => ⟨S_, .f32⟩
  | 9 => ⟨S_, .f32⟩
  | 10 => ⟨S2x1080x1920x3, .f32⟩
  | 11 => ⟨S2x1080x1920x3, .f32⟩
  | 12 => ⟨S_, .f32⟩
  | 13 => ⟨S2x1080x1920x3, .f32⟩
  | 14 => ⟨S2x1080x1920x3, .f32⟩
  | 15 => ⟨S4147200x3, .f32⟩
  | 16 => ⟨S_, .f32⟩
  | 17 => ⟨S4147200x3, .f32⟩
  | 18 => ⟨S4147200x3, .f32⟩
  | 19 => ⟨S4147200x3, .f32⟩
  | 20 => ⟨S4147200x3, .f32⟩
  | 21 => ⟨S4147200x3, .i32⟩
  | 22 => ⟨S_, .i32⟩
  | 23 => ⟨S_, .i32⟩
  | 24 => ⟨S_, .i32⟩
  | 25 => ⟨S4147200x3, .i32⟩
  | 26 => ⟨S4147200x3, .i32⟩
  | 27 => ⟨S_, .i32⟩
  | 28 => ⟨S4147200x3, .i32⟩
  | 29 => ⟨S4147200x3, .i32⟩
  | 30 => ⟨S4147200x1, .i32⟩
  | 31 => ⟨S4147200, .i32⟩
  | 32 => ⟨S4147200x1, .i32⟩
  | 33 => ⟨S4147200, .i32⟩
  | 34 => ⟨S4147200x1, .i32⟩
  | 35 => ⟨S4147200, .i32⟩
  | 36 => ⟨S_, .i32⟩
  | 37 => ⟨S4147200, .i32⟩
  | 38 => ⟨S4147200, .i1⟩
  | 39 => ⟨S_, .i32⟩
  | 40 => ⟨S4147200, .i32⟩
  | 41 => ⟨S4147200, .i32⟩
  | 42 => ⟨S4147200, .i32⟩
  | 43 => ⟨S_, .i32⟩
  | 44 => ⟨S4147200, .i32⟩
  | 45 => ⟨S4147200, .i1⟩
  | 46 => ⟨S_, .i32⟩
  | 47 => ⟨S4147200, .i32⟩
  | 48 => ⟨S4147200, .i32⟩
  | 49 => ⟨S4147200, .i32⟩
  | 50 => ⟨S_, .i32⟩
  | 51 => ⟨S4147200, .i32⟩
  | 52 => ⟨S4147200, .i1⟩
  | 53 => ⟨S_, .i32⟩
  | 54 => ⟨S4147200, .i32⟩
  | 55 => ⟨S4147200, .i32⟩
  | 56 => ⟨S4147200, .i32⟩
  | 57 => ⟨S4147200x1, .i32⟩
  | 58 => ⟨S4147200x1, .i32⟩
  | 59 => ⟨S4147200x1, .i32⟩
  | 60 => ⟨S4147200x3, .i32⟩
  | 61 => ⟨S4147200x3, .f32⟩
  | 62 => ⟨S_, .i32⟩
  | 63 => ⟨S4147200, .i32⟩
  | 64 => ⟨S4147200, .i32⟩
  | 65 => ⟨S_, .i32⟩
  | 66 => ⟨S4147200, .i32⟩
  | 67 => ⟨S4147200, .i1⟩
  | 68 => ⟨S_, .i32⟩
  | 69 => ⟨S4147200, .i32⟩
  | 70 => ⟨S4147200, .i32⟩
  | 71 => ⟨S4147200, .i32⟩
  | 72 => ⟨S_, .i32⟩
  | 73 => ⟨S4147200, .i32⟩
  | 74 => ⟨S4147200, .i1⟩
  | 75 => ⟨S_, .i32⟩
  | 76 => ⟨S4147200, .i32⟩
  | 77 => ⟨S4147200, .i32⟩
  | 78 => ⟨S4147200, .i32⟩
  | 79 => ⟨S_, .i32⟩
  | 80 => ⟨S4147200, .i32⟩
  | 81 => ⟨S4147200, .i1⟩
  | 82 => ⟨S_, .i32⟩
  | 83 => ⟨S4147200, .i32⟩
  | 84 => ⟨S4147200, .i32⟩
  | 85 => ⟨S4147200, .i32⟩
  | 86 => ⟨S4147200x1, .i32⟩
  | 87 => ⟨S4147200x1, .i32⟩
  | 88 => ⟨S4147200x1, .i32⟩
  | 89 => ⟨S4147200x3, .i32⟩
  | 90 => ⟨S4147200x3, .f32⟩
  | 91 => ⟨S_, .i32⟩
  | 92 => ⟨S4147200, .i32⟩
  | 93 => ⟨S4147200, .i32⟩
  | 94 => ⟨S_, .i32⟩
  | 95 => ⟨S4147200, .i32⟩
  | 96 => ⟨S4147200, .i1⟩
  | 97 => ⟨S_, .i32⟩
  | 98 => ⟨S4147200, .i32⟩
  | 99 => ⟨S4147200, .i32⟩
  | 100 => ⟨S4147200, .i32⟩
  | 101 => ⟨S_, .i32⟩
  | 102 => ⟨S4147200, .i32⟩
  | 103 => ⟨S4147200, .i1⟩
  | 104 => ⟨S_, .i32⟩
  | 105 => ⟨S4147200, .i32⟩
  | 106 => ⟨S4147200, .i32⟩
  | 107 => ⟨S4147200, .i32⟩
  | 108 => ⟨S_, .i32⟩
  | 109 => ⟨S4147200, .i32⟩
  | 110 => ⟨S4147200, .i1⟩
  | 111 => ⟨S_, .i32⟩
  | 112 => ⟨S4147200, .i32⟩
  | 113 => ⟨S4147200, .i32⟩
  | 114 => ⟨S4147200, .i32⟩
  | 115 => ⟨S4147200x1, .i32⟩
  | 116 => ⟨S4147200x1, .i32⟩
  | 117 => ⟨S4147200x1, .i32⟩
  | 118 => ⟨S4147200x3, .i32⟩
  | 119 => ⟨S4147200x3, .f32⟩
  | 120 => ⟨S_, .i32⟩
  | 121 => ⟨S4147200, .i32⟩
  | 122 => ⟨S4147200, .i32⟩
  | 123 => ⟨S_, .i32⟩
  | 124 => ⟨S4147200, .i32⟩
  | 125 => ⟨S4147200, .i32⟩
  | 126 => ⟨S_, .i32⟩
  | 127 => ⟨S4147200, .i32⟩
  | _ => ⟨S2x1080x1920x3, .f32⟩

abbrev hbmTy0_1 (i : Nat) : BufTy := match i % 128 with
  | 0 => ⟨S4147200, .i1⟩
  | 1 => ⟨S_, .i32⟩
  | 2 => ⟨S4147200, .i32⟩
  | 3 => ⟨S4147200, .i32⟩
  | 4 => ⟨S4147200, .i32⟩
  | 5 => ⟨S_, .i32⟩
  | 6 => ⟨S4147200, .i32⟩
  | 7 => ⟨S4147200, .i1⟩
  | 8 => ⟨S_, .i32⟩
  | 9 => ⟨S4147200, .i32⟩
  | 10 => ⟨S4147200, .i32⟩
  | 11 => ⟨S4147200, .i32⟩
  | 12 => ⟨S_, .i32⟩
  | 13 => ⟨S4147200, .i32⟩
  | 14 => ⟨S4147200, .i1⟩
  | 15 => ⟨S_, .i32⟩
  | 16 => ⟨S4147200, .i32⟩
  | 17 => ⟨S4147200, .i32⟩
  | 18 => ⟨S4147200, .i32⟩
  | 19 => ⟨S4147200x1, .i32⟩
  | 20 => ⟨S4147200x1, .i32⟩
  | 21 => ⟨S4147200x1, .i32⟩
  | 22 => ⟨S4147200x3, .i32⟩
  | 23 => ⟨S4147200x3, .f32⟩
  | 24 => ⟨S_, .i32⟩
  | 25 => ⟨S4147200, .i32⟩
  | 26 => ⟨S4147200, .i32⟩
  | 27 => ⟨S_, .i32⟩
  | 28 => ⟨S4147200, .i32⟩
  | 29 => ⟨S4147200, .i1⟩
  | 30 => ⟨S_, .i32⟩
  | 31 => ⟨S4147200, .i32⟩
  | 32 => ⟨S4147200, .i32⟩
  | 33 => ⟨S4147200, .i32⟩
  | 34 => ⟨S_, .i32⟩
  | 35 => ⟨S4147200, .i32⟩
  | 36 => ⟨S4147200, .i1⟩
  | 37 => ⟨S_, .i32⟩
  | 38 => ⟨S4147200, .i32⟩
  | 39 => ⟨S4147200, .i32⟩
  | 40 => ⟨S4147200, .i32⟩
  | 41 => ⟨S_, .i32⟩
  | 42 => ⟨S4147200, .i32⟩
  | 43 => ⟨S4147200, .i1⟩
  | 44 => ⟨S_, .i32⟩
  | 45 => ⟨S4147200, .i32⟩
  | 46 => ⟨S4147200, .i32⟩
  | 47 => ⟨S4147200, .i32⟩
  | 48 => ⟨S4147200x1, .i32⟩
  | 49 => ⟨S4147200x1, .i32⟩
  | 50 => ⟨S4147200x1, .i32⟩
  | 51 => ⟨S4147200x3, .i32⟩
  | 52 => ⟨S4147200x3, .f32⟩
  | 53 => ⟨S_, .i32⟩
  | 54 => ⟨S4147200, .i32⟩
  | 55 => ⟨S4147200, .i32⟩
  | 56 => ⟨S_, .i32⟩
  | 57 => ⟨S4147200, .i32⟩
  | 58 => ⟨S4147200, .i32⟩
  | 59 => ⟨S_, .i32⟩
  | 60 => ⟨S4147200, .i32⟩
  | 61 => ⟨S4147200, .i1⟩
  | 62 => ⟨S_, .i32⟩
  | 63 => ⟨S4147200, .i32⟩
  | 64 => ⟨S4147200, .i32⟩
  | 65 => ⟨S4147200, .i32⟩
  | 66 => ⟨S_, .i32⟩
  | 67 => ⟨S4147200, .i32⟩
  | 68 => ⟨S4147200, .i1⟩
  | 69 => ⟨S_, .i32⟩
  | 70 => ⟨S4147200, .i32⟩
  | 71 => ⟨S4147200, .i32⟩
  | 72 => ⟨S4147200, .i32⟩
  | 73 => ⟨S_, .i32⟩
  | 74 => ⟨S4147200, .i32⟩
  | 75 => ⟨S4147200, .i1⟩
  | 76 => ⟨S_, .i32⟩
  | 77 => ⟨S4147200, .i32⟩
  | 78 => ⟨S4147200, .i32⟩
  | 79 => ⟨S4147200, .i32⟩
  | 80 => ⟨S4147200x1, .i32⟩
  | 81 => ⟨S4147200x1, .i32⟩
  | 82 => ⟨S4147200x1, .i32⟩
  | 83 => ⟨S4147200x3, .i32⟩
  | 84 => ⟨S4147200x3, .f32⟩
  | 85 => ⟨S_, .i32⟩
  | 86 => ⟨S4147200, .i32⟩
  | 87 => ⟨S4147200, .i32⟩
  | 88 => ⟨S_, .i32⟩
  | 89 => ⟨S4147200, .i32⟩
  | 90 => ⟨S4147200, .i32⟩
  | 91 => ⟨S_, .i32⟩
  | 92 => ⟨S4147200, .i32⟩
  | 93 => ⟨S4147200, .i1⟩
  | 94 => ⟨S_, .i32⟩
  | 95 => ⟨S4147200, .i32⟩
  | 96 => ⟨S4147200, .i32⟩
  | 97 => ⟨S4147200, .i32⟩
  | 98 => ⟨S_, .i32⟩
  | 99 => ⟨S4147200, .i32⟩
  | 100 => ⟨S4147200, .i1⟩
  | 101 => ⟨S_, .i32⟩
  | 102 => ⟨S4147200, .i32⟩
  | 103 => ⟨S4147200, .i32⟩
  | 104 => ⟨S4147200, .i32⟩
  | 105 => ⟨S_, .i32⟩
  | 106 => ⟨S4147200, .i32⟩
  | 107 => ⟨S4147200, .i1⟩
  | 108 => ⟨S_, .i32⟩
  | 109 => ⟨S4147200, .i32⟩
  | 110 => ⟨S4147200, .i32⟩
  | 111 => ⟨S4147200, .i32⟩
  | 112 => ⟨S4147200x1, .i32⟩
  | 113 => ⟨S4147200x1, .i32⟩
  | 114 => ⟨S4147200x1, .i32⟩
  | 115 => ⟨S4147200x3, .i32⟩
  | 116 => ⟨S4147200x3, .f32⟩
  | 117 => ⟨S_, .i32⟩
  | 118 => ⟨S4147200, .i32⟩
  | 119 => ⟨S4147200, .i32⟩
  | 120 => ⟨S_, .i32⟩
  | 121 => ⟨S4147200, .i32⟩
  | 122 => ⟨S4147200, .i32⟩
  | 123 => ⟨S_, .i32⟩
  | 124 => ⟨S4147200, .i32⟩
  | 125 => ⟨S4147200, .i32⟩
  | 126 => ⟨S_, .i32⟩
  | 127 => ⟨S4147200, .i32⟩
  | _ => ⟨S2x1080x1920x3, .f32⟩

abbrev hbmTy0_2 (i : Nat) : BufTy := match i % 128 with
  | 0 => ⟨S4147200, .i1⟩
  | 1 => ⟨S_, .i32⟩
  | 2 => ⟨S4147200, .i32⟩
  | 3 => ⟨S4147200, .i32⟩
  | 4 => ⟨S4147200, .i32⟩
  | 5 => ⟨S_, .i32⟩
  | 6 => ⟨S4147200, .i32⟩
  | 7 => ⟨S4147200, .i1⟩
  | 8 => ⟨S_, .i32⟩
  | 9 => ⟨S4147200, .i32⟩
  | 10 => ⟨S4147200, .i32⟩
  | 11 => ⟨S4147200, .i32⟩
  | 12 => ⟨S_, .i32⟩
  | 13 => ⟨S4147200, .i32⟩
  | 14 => ⟨S4147200, .i1⟩
  | 15 => ⟨S_, .i32⟩
  | 16 => ⟨S4147200, .i32⟩
  | 17 => ⟨S4147200, .i32⟩
  | 18 => ⟨S4147200, .i32⟩
  | 19 => ⟨S4147200x1, .i32⟩
  | 20 => ⟨S4147200x1, .i32⟩
  | 21 => ⟨S4147200x1, .i32⟩
  | 22 => ⟨S4147200x3, .i32⟩
  | 23 => ⟨S4147200x3, .f32⟩
  | 24 => ⟨S4147200x1, .f32⟩
  | 25 => ⟨S4147200x1, .f32⟩
  | 26 => ⟨S4147200x1, .f32⟩
  | 27 => ⟨S_, .f32⟩
  | 28 => ⟨S4147200x1, .f32⟩
  | 29 => ⟨S4147200x1, .f32⟩
  | 30 => ⟨S4147200x3, .f32⟩
  | 31 => ⟨S4147200x3, .f32⟩
  | 32 => ⟨S4147200x3, .f32⟩
  | 33 => ⟨S4147200x3, .f32⟩
  | 34 => ⟨S4147200x3, .f32⟩
  | 35 => ⟨S_, .f32⟩
  | 36 => ⟨S4147200x1, .f32⟩
  | 37 => ⟨S4147200x1, .f32⟩
  | 38 => ⟨S4147200x3, .f32⟩
  | 39 => ⟨S4147200x3, .f32⟩
  | 40 => ⟨S4147200x3, .f32⟩
  | 41 => ⟨S4147200x3, .f32⟩
  | 42 => ⟨S4147200x3, .f32⟩
  | 43 => ⟨S_, .f32⟩
  | 44 => ⟨S4147200x1, .f32⟩
  | 45 => ⟨S4147200x1, .f32⟩
  | 46 => ⟨S4147200x3, .f32⟩
  | 47 => ⟨S4147200x3, .f32⟩
  | 48 => ⟨S4147200x3, .f32⟩
  | 49 => ⟨S4147200x3, .f32⟩
  | 50 => ⟨S4147200x3, .f32⟩
  | 51 => ⟨S_, .f32⟩
  | 52 => ⟨S4147200x1, .f32⟩
  | 53 => ⟨S4147200x1, .f32⟩
  | 54 => ⟨S4147200x3, .f32⟩
  | 55 => ⟨S4147200x3, .f32⟩
  | 56 => ⟨S4147200x3, .f32⟩
  | 57 => ⟨S4147200x3, .f32⟩
  | 58 => ⟨S4147200x3, .f32⟩
  | 59 => ⟨S_, .f32⟩
  | 60 => ⟨S4147200x1, .f32⟩
  | 61 => ⟨S4147200x1, .f32⟩
  | 62 => ⟨S4147200x3, .f32⟩
  | 63 => ⟨S4147200x3, .f32⟩
  | 64 => ⟨S4147200x3, .f32⟩
  | 65 => ⟨S4147200x3, .f32⟩
  | 66 => ⟨S4147200x3, .f32⟩
  | 67 => ⟨S_, .f32⟩
  | 68 => ⟨S4147200x1, .f32⟩
  | 69 => ⟨S4147200x1, .f32⟩
  | 70 => ⟨S4147200x3, .f32⟩
  | 71 => ⟨S4147200x3, .f32⟩
  | 72 => ⟨S4147200x3, .f32⟩
  | 73 => ⟨S4147200x3, .f32⟩
  | 74 => ⟨S4147200x3, .f32⟩
  | 75 => ⟨S_, .f32⟩
  | 76 => ⟨S4147200x1, .f32⟩
  | 77 => ⟨S4147200x1, .f32⟩
  | 78 => ⟨S4147200x3, .f32⟩
  | 79 => ⟨S4147200x3, .f32⟩
  | 80 => ⟨S4147200x3, .f32⟩
  | 81 => ⟨S4147200x3, .f32⟩
  | 82 => ⟨S4147200x3, .f32⟩
  | 83 => ⟨S2x1080x1920x3, .f32⟩
  | 84 => ⟨S3x3, .f32⟩
  | 85 => ⟨S2x1080x1920x3, .f32⟩
  | 86 => ⟨S3x3, .f32⟩
  | 87 => ⟨S2x1080x1920x3, .f32⟩
  | 88 => ⟨S_, .f32⟩
  | 89 => ⟨S_, .f32⟩
  | 90 => ⟨S_, .f32⟩
  | 91 => ⟨S2x1080x1920x3, .f32⟩
  | 92 => ⟨S2x1080x1920x3, .f32⟩
  | 93 => ⟨S_, .f32⟩
  | 94 => ⟨S2x1080x1920x3, .f32⟩
  | 95 => ⟨S2x1080x1920x3, .f32⟩
  | 96 => ⟨S_, .f32⟩
  | 97 => ⟨S2x1080x1920x3, .f32⟩
  | 98 => ⟨S2x1080x1920x3, .i1⟩
  | 99 => ⟨S_, .f32⟩
  | 100 => ⟨S_, .f32⟩
  | 101 => ⟨S2x1080x1920x3, .f32⟩
  | 102 => ⟨S2x1080x1920x3, .f32⟩
  | 103 => ⟨S_, .f32⟩
  | 104 => ⟨S2x1080x1920x3, .f32⟩
  | 105 => ⟨S2x1080x1920x3, .f32⟩
  | 106 => ⟨S_, .f32⟩
  | 107 => ⟨S2x1080x1920x3, .f32⟩
  | 108 => ⟨S2x1080x1920x3, .f32⟩
  | 109 => ⟨S_, .f32⟩
  | 110 => ⟨S2x1080x1920x3, .f32⟩
  | 111 => ⟨S2x1080x1920x3, .f32⟩
  | 112 => ⟨S_, .f32⟩
  | 113 => ⟨S2x1080x1920x3, .f32⟩
  | 114 => ⟨S2x1080x1920x3, .f32⟩
  | 115 => ⟨S2x1080x1920x3, .f32⟩
  | _ => ⟨S2x1080x1920x3, .f32⟩

abbrev hbmTy (i : Nat) : BufTy := match i / 128 with
  | 0 => hbmTy0_0 i
  | 1 => hbmTy0_1 i
  | 2 => hbmTy0_2 i
  | _ => ⟨S2x1080x1920x3, .f32⟩

abbrev bufTy : (tb : Table) → Fin (tcTables nBuf tb) → BufTy
  | .hbm, ⟨i, _⟩ => hbmTy i
  | _, _ => ⟨S2x1080x1920x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_v1 : Ref sig .tc := ⟨.hbm, 6, rfl⟩
abbrev main_cst_2 : Ref sig .tc := ⟨.hbm, 7, rfl⟩
abbrev main_cst_3 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_cst_4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_c_5 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_6 : Ref sig .tc := ⟨.hbm, 36, rfl⟩
abbrev main_v16 : Ref sig .tc := ⟨.hbm, 37, rfl⟩
abbrev main_v17 : Ref sig .tc := ⟨.hbm, 38, rfl⟩
abbrev main_c_7 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_8 : Ref sig .tc := ⟨.hbm, 43, rfl⟩
abbrev main_v21 : Ref sig .tc := ⟨.hbm, 44, rfl⟩
abbrev main_v22 : Ref sig .tc := ⟨.hbm, 45, rfl⟩
abbrev main_c_9 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_10 : Ref sig .tc := ⟨.hbm, 50, rfl⟩
abbrev main_v26 : Ref sig .tc := ⟨.hbm, 51, rfl⟩
abbrev main_v27 : Ref sig .tc := ⟨.hbm, 52, rfl⟩
abbrev main_c_11 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_12 : Ref sig .tc := ⟨.hbm, 62, rfl⟩
abbrev main_v36 : Ref sig .tc := ⟨.hbm, 63, rfl⟩
abbrev main_v37 : Ref sig .tc := ⟨.hbm, 64, rfl⟩
abbrev main_c_13 : Ref sig .tc := ⟨.hbm, 65, rfl⟩
abbrev main_v38 : Ref sig .tc := ⟨.hbm, 66, rfl⟩
abbrev main_v39 : Ref sig .tc := ⟨.hbm, 67, rfl⟩
abbrev main_c_14 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_15 : Ref sig .tc := ⟨.hbm, 72, rfl⟩
abbrev main_v43 : Ref sig .tc := ⟨.hbm, 73, rfl⟩
abbrev main_v44 : Ref sig .tc := ⟨.hbm, 74, rfl⟩
abbrev main_c_16 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_17 : Ref sig .tc := ⟨.hbm, 79, rfl⟩
abbrev main_v48 : Ref sig .tc := ⟨.hbm, 80, rfl⟩
abbrev main_v49 : Ref sig .tc := ⟨.hbm, 81, rfl⟩
abbrev main_c_18 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_19 : Ref sig .tc := ⟨.hbm, 91, rfl⟩
abbrev main_v58 : Ref sig .tc := ⟨.hbm, 92, rfl⟩
abbrev main_v59 : Ref sig .tc := ⟨.hbm, 93, rfl⟩
abbrev main_c_20 : Ref sig .tc := ⟨.hbm, 94, rfl⟩
abbrev main_v60 : Ref sig .tc := ⟨.hbm, 95, rfl⟩
abbrev main_v61 : Ref sig .tc := ⟨.hbm, 96, rfl⟩
abbrev main_c_21 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_22 : Ref sig .tc := ⟨.hbm, 101, rfl⟩
abbrev main_v65 : Ref sig .tc := ⟨.hbm, 102, rfl⟩
abbrev main_v66 : Ref sig .tc := ⟨.hbm, 103, rfl⟩
abbrev main_c_23 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_24 : Ref sig .tc := ⟨.hbm, 108, rfl⟩
abbrev main_v70 : Ref sig .tc := ⟨.hbm, 109, rfl⟩
abbrev main_v71 : Ref sig .tc := ⟨.hbm, 110, rfl⟩
abbrev main_c_25 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c_26 : Ref sig .tc := ⟨.hbm, 120, rfl⟩
abbrev main_v80 : Ref sig .tc := ⟨.hbm, 121, rfl⟩
abbrev main_v81 : Ref sig .tc := ⟨.hbm, 122, rfl⟩
abbrev main_c_27 : Ref sig .tc := ⟨.hbm, 123, rfl⟩
abbrev main_v82 : Ref sig .tc := ⟨.hbm, 124, rfl⟩
abbrev main_v83 : Ref sig .tc := ⟨.hbm, 125, rfl⟩
abbrev main_c_28 : Ref sig .tc := ⟨.hbm, 126, rfl⟩
abbrev main_v84 : Ref sig .tc := ⟨.hbm, 127, rfl⟩
abbrev main_v85 : Ref sig .tc := ⟨.hbm, 128, rfl⟩
abbrev main_c_29 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_c_30 : Ref sig .tc := ⟨.hbm, 133, rfl⟩
abbrev main_v89 : Ref sig .tc := ⟨.hbm, 134, rfl⟩
abbrev main_v90 : Ref sig .tc := ⟨.hbm, 135, rfl⟩
abbrev main_c_31 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_32 : Ref sig .tc := ⟨.hbm, 140, rfl⟩
abbrev main_v94 : Ref sig .tc := ⟨.hbm, 141, rfl⟩
abbrev main_v95 : Ref sig .tc := ⟨.hbm, 142, rfl⟩
abbrev main_c_33 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_c_34 : Ref sig .tc := ⟨.hbm, 152, rfl⟩
abbrev main_v104 : Ref sig .tc := ⟨.hbm, 153, rfl⟩
abbrev main_v105 : Ref sig .tc := ⟨.hbm, 154, rfl⟩
abbrev main_c_35 : Ref sig .tc := ⟨.hbm, 155, rfl⟩
abbrev main_v106 : Ref sig .tc := ⟨.hbm, 156, rfl⟩
abbrev main_v107 : Ref sig .tc := ⟨.hbm, 157, rfl⟩
abbrev main_c_36 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_c_37 : Ref sig .tc := ⟨.hbm, 162, rfl⟩
abbrev main_v111 : Ref sig .tc := ⟨.hbm, 163, rfl⟩
abbrev main_v112 : Ref sig .tc := ⟨.hbm, 164, rfl⟩
abbrev main_c_38 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_c_39 : Ref sig .tc := ⟨.hbm, 169, rfl⟩
abbrev main_v116 : Ref sig .tc := ⟨.hbm, 170, rfl⟩
abbrev main_v117 : Ref sig .tc := ⟨.hbm, 171, rfl⟩
abbrev main_c_40 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_c_41 : Ref sig .tc := ⟨.hbm, 181, rfl⟩
abbrev main_v126 : Ref sig .tc := ⟨.hbm, 182, rfl⟩
abbrev main_v127 : Ref sig .tc := ⟨.hbm, 183, rfl⟩
abbrev main_c_42 : Ref sig .tc := ⟨.hbm, 184, rfl⟩
abbrev main_v128 : Ref sig .tc := ⟨.hbm, 185, rfl⟩
abbrev main_v129 : Ref sig .tc := ⟨.hbm, 186, rfl⟩
abbrev main_c_43 : Ref sig .tc := ⟨.hbm, 187, rfl⟩
abbrev main_v130 : Ref sig .tc := ⟨.hbm, 188, rfl⟩
abbrev main_v131 : Ref sig .tc := ⟨.hbm, 189, rfl⟩
abbrev main_c_44 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_c_45 : Ref sig .tc := ⟨.hbm, 194, rfl⟩
abbrev main_v135 : Ref sig .tc := ⟨.hbm, 195, rfl⟩
abbrev main_v136 : Ref sig .tc := ⟨.hbm, 196, rfl⟩
abbrev main_c_46 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_c_47 : Ref sig .tc := ⟨.hbm, 201, rfl⟩
abbrev main_v140 : Ref sig .tc := ⟨.hbm, 202, rfl⟩
abbrev main_v141 : Ref sig .tc := ⟨.hbm, 203, rfl⟩
abbrev main_c_48 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_c_49 : Ref sig .tc := ⟨.hbm, 213, rfl⟩
abbrev main_v150 : Ref sig .tc := ⟨.hbm, 214, rfl⟩
abbrev main_v151 : Ref sig .tc := ⟨.hbm, 215, rfl⟩
abbrev main_c_50 : Ref sig .tc := ⟨.hbm, 216, rfl⟩
abbrev main_v152 : Ref sig .tc := ⟨.hbm, 217, rfl⟩
abbrev main_v153 : Ref sig .tc := ⟨.hbm, 218, rfl⟩
abbrev main_c_51 : Ref sig .tc := ⟨.hbm, 219, rfl⟩
abbrev main_v154 : Ref sig .tc := ⟨.hbm, 220, rfl⟩
abbrev main_v155 : Ref sig .tc := ⟨.hbm, 221, rfl⟩
abbrev main_c_52 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_c_53 : Ref sig .tc := ⟨.hbm, 226, rfl⟩
abbrev main_v159 : Ref sig .tc := ⟨.hbm, 227, rfl⟩
abbrev main_v160 : Ref sig .tc := ⟨.hbm, 228, rfl⟩
abbrev main_c_54 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_c_55 : Ref sig .tc := ⟨.hbm, 233, rfl⟩
abbrev main_v164 : Ref sig .tc := ⟨.hbm, 234, rfl⟩
abbrev main_v165 : Ref sig .tc := ⟨.hbm, 235, rfl⟩
abbrev main_c_56 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_c_57 : Ref sig .tc := ⟨.hbm, 245, rfl⟩
abbrev main_v174 : Ref sig .tc := ⟨.hbm, 246, rfl⟩
abbrev main_v175 : Ref sig .tc := ⟨.hbm, 247, rfl⟩
abbrev main_c_58 : Ref sig .tc := ⟨.hbm, 248, rfl⟩
abbrev main_v176 : Ref sig .tc := ⟨.hbm, 249, rfl⟩
abbrev main_v177 : Ref sig .tc := ⟨.hbm, 250, rfl⟩
abbrev main_c_59 : Ref sig .tc := ⟨.hbm, 251, rfl⟩
abbrev main_v178 : Ref sig .tc := ⟨.hbm, 252, rfl⟩
abbrev main_v179 : Ref sig .tc := ⟨.hbm, 253, rfl⟩
abbrev main_c_60 : Ref sig .tc := ⟨.hbm, 254, rfl⟩
abbrev main_v180 : Ref sig .tc := ⟨.hbm, 255, rfl⟩
abbrev main_v181 : Ref sig .tc := ⟨.hbm, 256, rfl⟩
abbrev main_c_61 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_c_62 : Ref sig .tc := ⟨.hbm, 261, rfl⟩
abbrev main_v185 : Ref sig .tc := ⟨.hbm, 262, rfl⟩
abbrev main_v186 : Ref sig .tc := ⟨.hbm, 263, rfl⟩
abbrev main_c_63 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_c_64 : Ref sig .tc := ⟨.hbm, 268, rfl⟩
abbrev main_v190 : Ref sig .tc := ⟨.hbm, 269, rfl⟩
abbrev main_v191 : Ref sig .tc := ⟨.hbm, 270, rfl⟩
abbrev main_c_65 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_cst_66 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_cst_67 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_cst_68 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_cst_69 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_cst_70 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_cst_71 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_cst_72 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_cst_73 : Ref sig .tc := ⟨.hbm, 344, rfl⟩
abbrev main_cst_74 : Ref sig .tc := ⟨.hbm, 345, rfl⟩
abbrev main_call2_v0 : Ref sig .tc := ⟨.hbm, 346, rfl⟩
abbrev main_call2_v1 : Ref sig .tc := ⟨.hbm, 347, rfl⟩
abbrev main_call2_v2 : Ref sig .tc := ⟨.hbm, 348, rfl⟩
abbrev main_call2_v3 : Ref sig .tc := ⟨.hbm, 349, rfl⟩
abbrev main_call2_v4 : Ref sig .tc := ⟨.hbm, 350, rfl⟩
abbrev main_v257 : Ref sig .tc := ⟨.hbm, 351, rfl⟩
abbrev main_cst_75 : Ref sig .tc := ⟨.hbm, 352, rfl⟩
abbrev main_v258 : Ref sig .tc := ⟨.hbm, 353, rfl⟩
abbrev main_v259 : Ref sig .tc := ⟨.hbm, 354, rfl⟩
abbrev main_cst_76 : Ref sig .tc := ⟨.hbm, 355, rfl⟩
abbrev main_call3_v0 : Ref sig .tc := ⟨.hbm, 356, rfl⟩
abbrev main_call3_v1 : Ref sig .tc := ⟨.hbm, 357, rfl⟩
abbrev main_v260 : Ref sig .tc := ⟨.hbm, 358, rfl⟩
abbrev main_cst_77 : Ref sig .tc := ⟨.hbm, 359, rfl⟩
abbrev main_v261 : Ref sig .tc := ⟨.hbm, 360, rfl⟩
abbrev main_v262 : Ref sig .tc := ⟨.hbm, 361, rfl⟩
abbrev main_cst_78 : Ref sig .tc := ⟨.hbm, 362, rfl⟩
abbrev main_v263 : Ref sig .tc := ⟨.hbm, 363, rfl⟩
abbrev main_v264 : Ref sig .tc := ⟨.hbm, 364, rfl⟩
abbrev main_cst_79 : Ref sig .tc := ⟨.hbm, 365, rfl⟩
abbrev main_v265 : Ref sig .tc := ⟨.hbm, 366, rfl⟩
abbrev main_v266 : Ref sig .tc := ⟨.hbm, 367, rfl⟩
abbrev main_cst_80 : Ref sig .tc := ⟨.hbm, 368, rfl⟩
abbrev main_v267 : Ref sig .tc := ⟨.hbm, 369, rfl⟩
abbrev main_v268 : Ref sig .tc := ⟨.hbm, 370, rfl⟩
abbrev main_v269 : Ref sig .tc := ⟨.hbm, 371, rfl⟩

abbrev nD : Nat := 1
abbrev τ : Topo := Topo.v7x

variable {F : FTy → Type} [FloatOps F]
-- ==== Proof.BlockDiag.lean ====
/- Sums over the 384 lanes of a row, which hold 128 pixels of three channels each, against a column that is zero outside
   one pixel's three lanes. -/
module

public import Idealize.ShloMosaic.PureOps.Ideal

@[expose] public section

open scoped BigOperators

namespace Cert.Lanes

/-- The lane of channel `i` of pixel `q` of a row. -/
def lane (q : Fin 128) (i : Fin 3) : Fin 384 := ⟨3 * q.val + i.val, by omega⟩

theorem eq_lane (b : Fin 384) : ∃ q i, b = lane q i :=
  ⟨⟨b.val / 3, by omega⟩, ⟨b.val % 3, by omega⟩, Fin.ext (by show b.val = 3 * (b.val / 3) + b.val % 3; omega)⟩

/-- A sum over the lanes, pixel by pixel. -/
theorem sum_lanes (f : Fin 384 → EReal) : ∑ b, f b = ∑ q : Fin 128, ∑ i : Fin 3, f (lane q i) := by
  rw [← Fintype.sum_prod_type' fun q i => f (lane q i)]
  refine (Fintype.sum_equiv (finProdFinEquiv : Fin 128 × Fin 3 ≃ Fin (128 * 3)) _ _ fun z => ?_).symm
  refine congrArg f (Fin.ext ?_)
  show 3 * z.1.val + z.2.val = z.2.val + 3 * z.1.val
  omega

/-- A column that vanishes outside pixel `q` picks that pixel's three lanes. -/
theorem sum_block (x D : Fin 384 → EReal) (q : Fin 128) (h : ∀ q' i, q' ≠ q → D (lane q' i) = 0) :
    ∑ b, x b * D b = ∑ i : Fin 3, x (lane q i) * D (lane q i) := by
  rw [sum_lanes]
  refine Finset.sum_eq_single q (fun q' _ hq => Finset.sum_eq_zero fun i _ => ?_) fun hq => absurd (Finset.mem_univ q) hq
  rw [h q' i hq, mul_zero]

end Cert.Lanes
-- ==== Proof.Pixel.lean ====
/- The arithmetic of one pixel: clipping, the lookup table's reading of one channel, the eight-corner interpolation of
   the identity table, the two matrix products, and the final transfer curve. Everything here is about extended reals
   and words; no array appears. -/
module

public import Idealize.ShloMosaic.PureOps.Ideal
public import Idealize.ShloMosaic.PureOps.Ideal.Laws
public import Idealize.ShloMosaic.Lib.ValueIdx
public import Idealize.ShloMosaic.Lib.IdealHost

@[expose] public section

noncomputable section

open scoped BigOperators

namespace Cert.Pixel

open Idealize.ShloMosaic

/-! ## The constant words -/

theorem word_one : Ideal.ofBits .f32 0x3F800000#32 = 1 := by
  simp [Ideal.ofBits, Ideal.ieee, -EReal.coe_mul]
  norm_num

theorem word_zero : Ideal.ofBits .f32 0x00000000#32 = 0 := by
  simp [Ideal.ofBits, Ideal.ieee]

theorem word_negzero : Ideal.ofBits .f32 0x80000000#32 = 0 := by
  simp [Ideal.ofBits, Ideal.ieee]

theorem word_63 : Ideal.ofBits .f32 0x427C0000#32 = ((63 : ℝ) : EReal) := by
  simp [Ideal.ofBits, Ideal.ieee, -EReal.coe_mul]
  norm_num

theorem word_62 : Ideal.ofBits .f32 0x42780000#32 = ((62 : ℝ) : EReal) := by
  simp [Ideal.ofBits, Ideal.ieee, -EReal.coe_mul]
  norm_num

/-- A word whose exponent field is not all ones denotes a real number. -/
theorem word_real (w : BitVec 32) (h : (w.extractLsb' 23 8).toNat ≠ 255) : ∃ r : ℝ, Ideal.ofBits .f32 w = (r : EReal) := by
  show ∃ r : ℝ, Ideal.ieee 8 23 w = (r : EReal)
  unfold Ideal.ieee
  dsimp only
  rw [if_neg (by simpa using h)]
  split_ifs <;> exact ⟨_, rfl⟩

/-! ## Clipping to the unit interval -/

/-- The value moved into `[0, 1]`. -/
def clip01 (v : EReal) : EReal := min 1 (max 0 v)

theorem clip01_real (v : EReal) : ∃ u : ℝ, 0 ≤ u ∧ u ≤ 1 ∧ clip01 v = (u : EReal) := by
  have h0 : (0 : EReal) ≤ clip01 v := le_min zero_le_one (le_max_left _ _)
  have h1 : clip01 v ≤ 1 := min_le_left _ _
  generalize clip01 v = c at h0 h1 ⊢
  induction c with
  | bot => simp at h0
  | top => exact absurd h1 (not_le.mpr (EReal.coe_lt_top 1))
  | coe u => exact ⟨u, by exact_mod_cast h0, by exact_mod_cast h1, rfl⟩

/-! ## One channel's place in the table -/

/-- The table cell a channel value falls in: the last cell is number 62. -/
def cell (u : ℝ) : ℕ := min ⌊u * 63⌋.toNat 62

/-- The channel value's position above the grid point at or below it. -/
def frac (u : ℝ) : ℝ := u * 63 - (⌊u * 63⌋ : ℝ)

theorem cell_le (u : ℝ) : cell u ≤ 62 := min_le_right _ _

theorem floor_nonneg {u : ℝ} (h0 : 0 ≤ u) : 0 ≤ ⌊u * 63⌋ := Int.floor_nonneg.mpr (by positivity)

theorem floor_le {u : ℝ} (h1 : u ≤ 1) : ⌊u * 63⌋ ≤ 63 := by
  have h : (⌊u * 63⌋ : ℝ) ≤ ((63 : ℤ) : ℝ) := by
    have := Int.floor_le (u * 63)
    push_cast
    linarith
  exact_mod_cast h

/-- What the identity table answers for a channel value: cell plus position, over 63. -/
def shaped (u : ℝ) : ℝ := ((cell u : ℝ) + frac u) / 63

/-- The kernel's closed form of the table's answer. -/
def tone (y : EReal) : EReal :=
  (min (Ideal.liftRound Int.floor (y * ((63 : ℝ) : EReal))) ((62 : ℝ) : EReal)
    + (y * ((63 : ℝ) : EReal) - Ideal.liftRound Int.floor (y * ((63 : ℝ) : EReal)))) * ((1 / 63 : ℝ) : EReal)

theorem tone_real {u : ℝ} (h0 : 0 ≤ u) : tone (u : EReal) = ((shaped u : ℝ) : EReal) := by
  have hc : min (((⌊u * 63⌋ : ℝ)) : EReal) ((62 : ℝ) : EReal) = ((cell u : ℝ) : EReal) := by
    rw [← EReal.coe_strictMono.monotone.map_min]
    congr 1
    obtain ⟨n, hn⟩ := Int.eq_ofNat_of_zero_le (floor_nonneg h0)
    unfold cell
    rw [hn]
    push_cast
    simp
  unfold tone
  rw [← EReal.coe_mul, Ideal.liftRound_coe, ← EReal.coe_sub, hc, ← EReal.coe_add, ← EReal.coe_mul]
  unfold shaped frac
  congr 1
  ring

/-- The integer the reference computes for a channel is its cell number. -/
theorem cell_word {u : ℝ} (h0 : 0 ≤ u) (h1 : u ≤ 1) :
    IntOp.minsi 62#32 (IntOp.maxsi 0#32
      (Ideal.fptosi 32 (Ideal.liftRound Int.floor ((u : EReal) * ((63 : ℝ) : EReal))))) = BitVec.ofNat 32 (cell u) := by
  have hn := floor_nonneg h0
  have hl := floor_le h1
  unfold cell
  rw [← EReal.coe_mul, Ideal.liftRound_coe]
  generalize ⌊u * 63⌋ = z at hn hl
  unfold Ideal.fptosi
  rw [Ideal.toIntClamped_coe]
  rw [if_pos (by exact_mod_cast hn), Int.floor_intCast]
  obtain ⟨n, rfl⟩ := Int.eq_ofNat_of_zero_le hn
  have hn' : n ≤ 63 := by exact_mod_cast hl
  clear hn hl
  revert n
  decide +kernel

/-! ## Interpolating the identity table -/

/-- The reference's interpolation between the eight corners of a cell. -/
def trilerp (g : Fin 2 → Fin 2 → Fin 2 → EReal) (wx wy wz : EReal) : EReal :=
  ((g 0 0 0 * (1 - wz) + g 0 0 1 * wz) * (1 - wy) + (g 0 1 0 * (1 - wz) + g 0 1 1 * wz) * wy) * (1 - wx)
    + ((g 1 0 0 * (1 - wz) + g 1 0 1 * wz) * (1 - wy) + (g 1 1 0 * (1 - wz) + g 1 1 1 * wz) * wy) * wx

/-- The interpolation of real corners by real weights is the real interpolation. -/
theorem trilerp_coe (g : Fin 2 → Fin 2 → Fin 2 → ℝ) (wx wy wz : ℝ) :
    trilerp (fun a b c => (g a b c : EReal)) wx wy wz
      = ((((g 0 0 0 * (1 - wz) + g 0 0 1 * wz) * (1 - wy) + (g 0 1 0 * (1 - wz) + g 0 1 1 * wz) * wy) * (1 - wx)
        + ((g 1 0 0 * (1 - wz) + g 1 0 1 * wz) * (1 - wy) + (g 1 1 0 * (1 - wz) + g 1 1 1 * wz) * wy) * wx : ℝ) : EReal) := by
  unfold trilerp
  push_cast
  rfl

/-- The grid value of the identity table at node `i`. -/
def node (i : ℕ) : EReal := (((i : ℝ) / 63 : ℝ) : EReal)

theorem trilerp_first (n : ℕ) (wx wy wz : ℝ) :
    trilerp (fun a _ _ => node (n + a.val)) wx wy wz = ((((n : ℝ) + wx) / 63 : ℝ) : EReal) := by
  unfold node
  rw [trilerp_coe (fun a _ _ => ((n + a.val : ℕ) : ℝ) / 63)]
  congr 1
  push_cast
  simp only [Fin.val_zero, Fin.val_one]
  push_cast
  ring

theorem trilerp_second (n : ℕ) (wx wy wz : ℝ) :
    trilerp (fun _ b _ => node (n + b.val)) wx wy wz = ((((n : ℝ) + wy) / 63 : ℝ) : EReal) := by
  unfold node
  rw [trilerp_coe (fun _ b _ => ((n + b.val : ℕ) : ℝ) / 63)]
  congr 1
  push_cast
  simp only [Fin.val_zero, Fin.val_one]
  push_cast
  ring

theorem trilerp_third (n : ℕ) (wx wy wz : ℝ) :
    trilerp (fun _ _ c => node (n + c.val)) wx wy wz = ((((n : ℝ) + wz) / 63 : ℝ) : EReal) := by
  unfold node
  rw [trilerp_coe (fun _ _ c => ((n + c.val : ℕ) : ℝ) / 63)]
  congr 1
  push_cast
  simp only [Fin.val_zero, Fin.val_one]
  push_cast
  ring

/-- In every channel the interpolated identity table answers with that channel's own cell and position. -/
theorem trilerp_shaped (u : Fin 3 → ℝ) (k : Fin 3) :
    trilerp (fun a b c => node (cell (u k) + ((![a, b, c] : Fin 3 → Fin 2) k).val)) (frac (u 0)) (frac (u 1)) (frac (u 2))
      = ((shaped (u k) : ℝ) : EReal) := by
  fin_cases k
  · exact trilerp_first _ _ _ _
  · exact trilerp_second _ _ _ _
  · exact trilerp_third _ _ _ _

/-! ## The two matrices, one after the other or multiplied together -/

/-- Applying `X` and then `R` to real values is applying their product. -/
theorem product_assoc (g : Fin 3 → ℝ) (X R : Fin 3 → Fin 3 → ℝ) (ch : Fin 3) :
    (∑ k, (∑ j, (g j : EReal) * (X k j : EReal)) * (R ch k : EReal))
      = ∑ j, (g j : EReal) * ∑ k, (R ch k : EReal) * (X k j : EReal) := by
  simp only [Fin.sum_univ_three]
  norm_cast
  ring

/-! ## The transfer curve -/

/-- The final curve: a straight piece for small values, a power above. -/
def transfer (v : EReal) : EReal :=
  Scalar.select (Ideal.cmp .ole v (Ideal.ofBits .f32 0x3B4D2E1C#32))
    (Ideal.ofBits .f32 0x414EB852#32 * v)
    (Ideal.ofBits .f32 0x3F870A3D#32
        * Ideal.pow (Scalar.select (Ideal.cmp .ole v (Ideal.ofBits .f32 0x3B4D2E1C#32)) (Ideal.ofBits .f32 0x3F800000#32) v)
            (Ideal.ofBits .f32 0x3ED55555#32)
      - Ideal.ofBits .f32 0x3D6147AE#32)

/-! ## The pixel -/

/-- A pixel's three channels after the first matrix and clipping. -/
def entry (A : Fin 3 → Fin 3 → EReal) (m : Fin 3 → EReal) (j : Fin 3) : EReal := clip01 (∑ i, m i * A j i)

/-- The kernel's value of channel `ch` at a pixel with channels `m`. -/
def kernelPixel (A X R : Fin 3 → Fin 3 → EReal) (m : Fin 3 → EReal) (ch : Fin 3) : EReal :=
  transfer (clip01 (∑ j, tone (entry A m j) * ∑ k, R ch k * X k j))

/-- The reference's value of channel `ch` when the table answers `g`. -/
def referencePixel (X R : Fin 3 → Fin 3 → EReal) (g : Fin 3 → EReal) (ch : Fin 3) : EReal :=
  transfer (clip01 (∑ k, (∑ j, g j * X k j) * R ch k))

/-- With the identity table both compute one value. -/
theorem pixel_eq (A X R : Fin 3 → Fin 3 → EReal) (hX : ∀ k j, ∃ r : ℝ, X k j = r) (hR : ∀ k j, ∃ r : ℝ, R k j = r)
    (m : Fin 3 → EReal) (u : Fin 3 → ℝ) (hu0 : ∀ j, 0 ≤ u j) (hu : ∀ j, entry A m j = (u j : EReal))
    (g : Fin 3 → EReal) (hg : ∀ j, g j = ((shaped (u j) : ℝ) : EReal)) (ch : Fin 3) :
    kernelPixel A X R m ch = referencePixel X R g ch := by
  choose x hx using hX
  choose r hr using hR
  unfold kernelPixel referencePixel
  have h := product_assoc (fun j => shaped (u j)) x r ch
  simp only [hx, hr, hu, hg, tone_real (hu0 _)]
  rw [h]

end Cert.Pixel
-- ==== Proof.HostPrefix.lean ====
/- What the host operations before the grid leave in the three arrays the grid reads: the image as rows of 384 lanes, the
   first coefficient table, and the second coefficient table, which carries the product of two 3 × 3 matrices along its
   diagonal. -/
module

public import proofs.«01_k».proof.Proof.Gen.KernelIdeal.Frame
public import proofs.«01_k».proof.Proof.BlockDiag
public import proofs.«01_k».proof.Proof.Pixel
public import Idealize.ShloMosaic.Lib.ValueIdx
public import Idealize.ShloMosaic.Lib.Pipeline.Value
public import Idealize.ShloMosaic.Lib.StableHlo.RunRead

@[expose] public section

noncomputable section

open scoped BigOperators

namespace Cert.KernelSide

open Cert.KernelIdeal Cert.KernelIdeal.Gen Idealize.ShloMosaic Idealize.ShloMosaic.ValueIdx
open Idealize.ShloMosaic.TcCoe Idealize.SL.Sem Cert.Lanes

variable (m : (ℓ : Loc nD τ sig) → Buf (Elt Ideal) ℓ) (c : Dev nD)

/-- The product of two 3 × 3 matrices as the host computes it: a sum over the middle index of a 3 × 3 × 3 array. -/
def product : FVec Ideal S3x3 .f32 :=
  Host.reduceAdd
    (mulf
      (broadcastInDim S3x3x3 ![0, 1, 2] bcast_S3x3x1_S3x3x3_0_1_2 (broadcastInDim S3x3x1 ![0, 1] bcast_S3x3_S3x3x1_0_1
        (fun i => FloatOps.ofBits (F := Ideal) .f32 (lit0 (S3x3.rowMajor i)))))
      (broadcastInDim S3x3x3 ![0, 1, 2] bcast_S1x3x3_S3x3x3_0_1_2 (broadcastInDim S1x3x3 ![1, 2] bcast_S3x3_S1x3x3_1_2
        (fun i => FloatOps.ofBits (F := Ideal) .f32 (lit1 (S3x3.rowMajor i))))))
    (constant S_ .f32 0x00000000#32) reducesTo_S3x3x3_S3x3_d1 h_S_

/-- The 128 × 128 identity matrix as the host computes it. -/
def eye : FVec Ideal S128x128 .f32 :=
  uitofp .f32 (cmpi .eq (addi (iotaInDim S128x128 32 0) (broadcastInDim S128x128 ![] bcast_S_S128x128 (constantI S_ 32 0#32)))
    (iotaInDim S128x128 32 1))

/-- The identity matrix with each entry replaced by a 3 × 3 block. -/
def blocks (e : FVec Ideal S128x128 .f32) (w : FVec Ideal S3x3 .f32) : FVec Ideal S384x384 .f32 :=
  shapeCast S384x384
    (mulf
      (broadcastInDim S128x3x128x3 ![0, 1, 2, 3] bcast_S128x1x128x1_S128x3x128x3_0_1_2_3
        (broadcastInDim S128x1x128x1 ![0, 2] bcast_S128x128_S128x1x128x1_0_2 e))
      (broadcastInDim S128x3x128x3 ![0, 1, 2, 3] bcast_S1x3x1x3_S128x3x128x3_0_1_2_3
        (broadcastInDim S1x3x1x3 ![1, 3] bcast_S3x3_S1x3x1x3_1_3 w)))
    shapeCasts_S128x3x128x3_S384x384

theorem rows_eq : V m c main_call0_v0
    = shapeCast S32400x384 (m ((c : Thread nD τ).loc main_arg0)) shapeCasts_S2x1080x1920x3_S32400x384 := by
  show StableHlo.after hostOps0 _ _ = _
  after_reads_simp
  rfl

theorem first_eq : V m c main_call0_cst_1 = fun i => FloatOps.ofBits (F := Ideal) .f32 (lit2 (S384x384.rowMajor i)) := by
  show StableHlo.after hostOps0 _ _ = _
  after_reads_simp
  rfl

theorem second_eq : V m c main_call0_v14 = blocks eye (transpose S3x3 [1, 0] product transposes_S3x3_S3x3_1_0) := by
  show StableHlo.after hostOps0 _ _ = _
  after_reads_simp
  rfl

end Cert.KernelSide
-- ==== Proof.Choice.lean ====
/- Choices between many cases: a property of the chosen value follows from the property of every case. The kernel's
   coefficient table is written as such choices on the digits of the position, base 128. -/
module

public import Mathlib.Tactic.IntervalCases

@[expose] public section

set_option Elab.async false

namespace Cert.Table

/-- A property of the value of a nine-way choice on `x` holds when every arm has it. -/
theorem choice_9 (P : ℕ → BitVec 32 → Prop) (x : ℕ) {h0 h1 h2 h3 h4 h5 h6 h7 h8 d : BitVec 32}
    (g0 : P 0 h0) (g1 : P 1 h1) (g2 : P 2 h2) (g3 : P 3 h3) (g4 : P 4 h4) (g5 : P 5 h5) (g6 : P 6 h6) (g7 : P 7 h7)
    (g8 : P 8 h8) :
    x < 9 → P x (match x with
      | 0 => h0 | 1 => h1 | 2 => h2 | 3 => h3 | 4 => h4 | 5 => h5 | 6 => h6 | 7 => h7 | 8 => h8 | _ => d) := by
  intro hx
  interval_cases x <;> assumption

/-- A property of the value of a 128-way choice on `x` holds when every arm has it. -/
theorem choice_128 (P : ℕ → BitVec 32 → Prop) (x : ℕ)
    {
    h0 h1 h2 h3 h4 h5 h6 h7 h8 h9 h10 h11 h12 h13 h14 h15 h16 h17 h18 h19 h20 h21 h22 h23 h24 h25 h26 h27 h28 h29 h30
    h31 h32 h33 h34 h35 h36 h37 h38 h39 h40 h41 h42 h43 h44 h45 h46 h47 h48 h49 h50 h51 h52 h53 h54 h55 h56 h57 h58
    h59 h60 h61 h62 h63 h64 h65 h66 h67 h68 h69 h70 h71 h72 h73 h74 h75 h76 h77 h78 h79 h80 h81 h82 h83 h84 h85 h86
    h87 h88 h89 h90 h91 h92 h93 h94 h95 h96 h97 h98 h99 h100 h101 h102 h103 h104 h105 h106 h107 h108 h109 h110 h111
    h112 h113 h114 h115 h116 h117 h118 h119 h120 h121 h122 h123 h124 h125 h126 h127 d : BitVec 32
    }
    (g0 : P 0 h0) (g1 : P 1 h1) (g2 : P 2 h2) (g3 : P 3 h3) (g4 : P 4 h4) (g5 : P 5 h5) (g6 : P 6 h6) (g7 : P 7 h7)
    (g8 : P 8 h8) (g9 : P 9 h9) (g10 : P 10 h10) (g11 : P 11 h11) (g12 : P 12 h12) (g13 : P 13 h13) (g14 : P 14 h14)
    (g15 : P 15 h15) (g16 : P 16 h16) (g17 : P 17 h17) (g18 : P 18 h18) (g19 : P 19 h19) (g20 : P 20 h20) (g21 : P 21
    h21) (g22 : P 22 h22) (g23 : P 23 h23) (g24 : P 24 h24) (g25 : P 25 h25) (g26 : P 26 h26) (g27 : P 27 h27) (g28 :
    P 28 h28) (g29 : P 29 h29) (g30 : P 30 h30) (g31 : P 31 h31) (g32 : P 32 h32) (g33 : P 33 h33) (g34 : P 34 h34)
    (g35 : P 35 h35) (g36 : P 36 h36) (g37 : P 37 h37) (g38 : P 38 h38) (g39 : P 39 h39) (g40 : P 40 h40) (g41 : P 41
    h41) (g42 : P 42 h42) (g43 : P 43 h43) (g44 : P 44 h44) (g45 : P 45 h45) (g46 : P 46 h46) (g47 : P 47 h47) (g48 :
    P 48 h48) (g49 : P 49 h49) (g50 : P 50 h50) (g51 : P 51 h51) (g52 : P 52 h52) (g53 : P 53 h53) (g54 : P 54 h54)
    (g55 : P 55 h55) (g56 : P 56 h56) (g57 : P 57 h57) (g58 : P 58 h58) (g59 : P 59 h59) (g60 : P 60 h60) (g61 : P 61
    h61) (g62 : P 62 h62) (g63 : P 63 h63) (g64 : P 64 h64) (g65 : P 65 h65) (g66 : P 66 h66) (g67 : P 67 h67) (g68 :
    P 68 h68) (g69 : P 69 h69) (g70 : P 70 h70) (g71 : P 71 h71) (g72 : P 72 h72) (g73 : P 73 h73) (g74 : P 74 h74)
    (g75 : P 75 h75) (g76 : P 76 h76) (g77 : P 77 h77) (g78 : P 78 h78) (g79 : P 79 h79) (g80 : P 80 h80) (g81 : P 81
    h81) (g82 : P 82 h82) (g83 : P 83 h83) (g84 : P 84 h84) (g85 : P 85 h85) (g86 : P 86 h86) (g87 : P 87 h87) (g88 :
    P 88 h88) (g89 : P 89 h89) (g90 : P 90 h90) (g91 : P 91 h91) (g92 : P 92 h92) (g93 : P 93 h93) (g94 : P 94 h94)
    (g95 : P 95 h95) (g96 : P 96 h96) (g97 : P 97 h97) (g98 : P 98 h98) (g99 : P 99 h99) (g100 : P 100 h100) (g101 : P
    101 h101) (g102 : P 102 h102) (g103 : P 103 h103) (g104 : P 104 h104) (g105 : P 105 h105) (g106 : P 106 h106)
    (g107 : P 107 h107) (g108 : P 108 h108) (g109 : P 109 h109) (g110 : P 110 h110) (g111 : P 111 h111) (g112 : P 112
    h112) (g113 : P 113 h113) (g114 : P 114 h114) (g115 : P 115 h115) (g116 : P 116 h116) (g117 : P 117 h117) (g118 :
    P 118 h118) (g119 : P 119 h119) (g120 : P 120 h120) (g121 : P 121 h121) (g122 : P 122 h122) (g123 : P 123 h123)
    (g124 : P 124 h124) (g125 : P 125 h125) (g126 : P 126 h126) (g127 : P 127 h127) :
    x < 128 → P x (match x with
    | 0 => h0 | 1 => h1 | 2 => h2 | 3 => h3 | 4 => h4 | 5 => h5 | 6 => h6 | 7 => h7 | 8 => h8 | 9 => h9 | 10 => h10 |
    11 => h11 | 12 => h12 | 13 => h13 | 14 => h14 | 15 => h15 | 16 => h16 | 17 => h17 | 18 => h18 | 19 => h19 | 20 =>
    h20 | 21 => h21 | 22 => h22 | 23 => h23 | 24 => h24 | 25 => h25 | 26 => h26 | 27 => h27 | 28 => h28 | 29 => h29 |
    30 => h30 | 31 => h31 | 32 => h32 | 33 => h33 | 34 => h34 | 35 => h35 | 36 => h36 | 37 => h37 | 38 => h38 | 39 =>
    h39 | 40 => h40 | 41 => h41 | 42 => h42 | 43 => h43 | 44 => h44 | 45 => h45 | 46 => h46 | 47 => h47 | 48 => h48 |
    49 => h49 | 50 => h50 | 51 => h51 | 52 => h52 | 53 => h53 | 54 => h54 | 55 => h55 | 56 => h56 | 57 => h57 | 58 =>
    h58 | 59 => h59 | 60 => h60 | 61 => h61 | 62 => h62 | 63 => h63 | 64 => h64 | 65 => h65 | 66 => h66 | 67 => h67 |
    68 => h68 | 69 => h69 | 70 => h70 | 71 => h71 | 72 => h72 | 73 => h73 | 74 => h74 | 75 => h75 | 76 => h76 | 77 =>
    h77 | 78 => h78 | 79 => h79 | 80 => h80 | 81 => h81 | 82 => h82 | 83 => h83 | 84 => h84 | 85 => h85 | 86 => h86 |
    87 => h87 | 88 => h88 | 89 => h89 | 90 => h90 | 91 => h91 | 92 => h92 | 93 => h93 | 94 => h94 | 95 => h95 | 96 =>
    h96 | 97 => h97 | 98 => h98 | 99 => h99 | 100 => h100 | 101 => h101 | 102 => h102 | 103 => h103 | 104 => h104 |
    105 => h105 | 106 => h106 | 107 => h107 | 108 => h108 | 109 => h109 | 110 => h110 | 111 => h111 | 112 => h112 |
    113 => h113 | 114 => h114 | 115 => h115 | 116 => h116 | 117 => h117 | 118 => h118 | 119 => h119 | 120 => h120 |
    121 => h121 | 122 => h122 | 123 => h123 | 124 => h124 | 125 => h125 | 126 => h126 | 127 => h127 | _ => d) := by
  intro hx
  interval_cases x <;> assumption

/-- The same for a test: it is enough that the conjunction of the arms' tests evaluates to true. -/
theorem choice_128_test (P : ℕ → BitVec 32 → Bool) (x : ℕ)
    {
    h0 h1 h2 h3 h4 h5 h6 h7 h8 h9 h10 h11 h12 h13 h14 h15 h16 h17 h18 h19 h20 h21 h22 h23 h24 h25 h26 h27 h28 h29 h30
    h31 h32 h33 h34 h35 h36 h37 h38 h39 h40 h41 h42 h43 h44 h45 h46 h47 h48 h49 h50 h51 h52 h53 h54 h55 h56 h57 h58
    h59 h60 h61 h62 h63 h64 h65 h66 h67 h68 h69 h70 h71 h72 h73 h74 h75 h76 h77 h78 h79 h80 h81 h82 h83 h84 h85 h86
    h87 h88 h89 h90 h91 h92 h93 h94 h95 h96 h97 h98 h99 h100 h101 h102 h103 h104 h105 h106 h107 h108 h109 h110 h111
    h112 h113 h114 h115 h116 h117 h118 h119 h120 h121 h122 h123 h124 h125 h126 h127 d : BitVec 32
    }
    (h : (
    P 0 h0 && P 1 h1 && P 2 h2 && P 3 h3 && P 4 h4 && P 5 h5 && P 6 h6 && P 7 h7 && P 8 h8 && P 9 h9 && P 10 h10 && P
    11 h11 && P 12 h12 && P 13 h13 && P 14 h14 && P 15 h15 && P 16 h16 && P 17 h17 && P 18 h18 && P 19 h19 && P 20 h20
    && P 21 h21 && P 22 h22 && P 23 h23 && P 24 h24 && P 25 h25 && P 26 h26 && P 27 h27 && P 28 h28 && P 29 h29 && P
    30 h30 && P 31 h31 && P 32 h32 && P 33 h33 && P 34 h34 && P 35 h35 && P 36 h36 && P 37 h37 && P 38 h38 && P 39 h39
    && P 40 h40 && P 41 h41 && P 42 h42 && P 43 h43 && P 44 h44 && P 45 h45 && P 46 h46 && P 47 h47 && P 48 h48 && P
    49 h49 && P 50 h50 && P 51 h51 && P 52 h52 && P 53 h53 && P 54 h54 && P 55 h55 && P 56 h56 && P 57 h57 && P 58 h58
    && P 59 h59 && P 60 h60 && P 61 h61 && P 62 h62 && P 63 h63 && P 64 h64 && P 65 h65 && P 66 h66 && P 67 h67 && P
    68 h68 && P 69 h69 && P 70 h70 && P 71 h71 && P 72 h72 && P 73 h73 && P 74 h74 && P 75 h75 && P 76 h76 && P 77 h77
    && P 78 h78 && P 79 h79 && P 80 h80 && P 81 h81 && P 82 h82 && P 83 h83 && P 84 h84 && P 85 h85 && P 86 h86 && P
    87 h87 && P 88 h88 && P 89 h89 && P 90 h90 && P 91 h91 && P 92 h92 && P 93 h93 && P 94 h94 && P 95 h95 && P 96 h96
    && P 97 h97 && P 98 h98 && P 99 h99 && P 100 h100 && P 101 h101 && P 102 h102 && P 103 h103 && P 104 h104 && P 105
    h105 && P 106 h106 && P 107 h107 && P 108 h108 && P 109 h109 && P 110 h110 && P 111 h111 && P 112 h112 && P 113
    h113 && P 114 h114 && P 115 h115 && P 116 h116 && P 117 h117 && P 118 h118 && P 119 h119 && P 120 h120 && P 121
    h121 && P 122 h122 && P 123 h123 && P 124 h124 && P 125 h125 && P 126 h126 && P 127 h127
      ) = true) :
    x < 128 → P x (match x with
    | 0 => h0 | 1 => h1 | 2 => h2 | 3 => h3 | 4 => h4 | 5 => h5 | 6 => h6 | 7 => h7 | 8 => h8 | 9 => h9 | 10 => h10 |
    11 => h11 | 12 => h12 | 13 => h13 | 14 => h14 | 15 => h15 | 16 => h16 | 17 => h17 | 18 => h18 | 19 => h19 | 20 =>
    h20 | 21 => h21 | 22 => h22 | 23 => h23 | 24 => h24 | 25 => h25 | 26 => h26 | 27 => h27 | 28 => h28 | 29 => h29 |
    30 => h30 | 31 => h31 | 32 => h32 | 33 => h33 | 34 => h34 | 35 => h35 | 36 => h36 | 37 => h37 | 38 => h38 | 39 =>
    h39 | 40 => h40 | 41 => h41 | 42 => h42 | 43 => h43 | 44 => h44 | 45 => h45 | 46 => h46 | 47 => h47 | 48 => h48 |
    49 => h49 | 50 => h50 | 51 => h51 | 52 => h52 | 53 => h53 | 54 => h54 | 55 => h55 | 56 => h56 | 57 => h57 | 58 =>
    h58 | 59 => h59 | 60 => h60 | 61 => h61 | 62 => h62 | 63 => h63 | 64 => h64 | 65 => h65 | 66 => h66 | 67 => h67 |
    68 => h68 | 69 => h69 | 70 => h70 | 71 => h71 | 72 => h72 | 73 => h73 | 74 => h74 | 75 => h75 | 76 => h76 | 77 =>
    h77 | 78 => h78 | 79 => h79 | 80 => h80 | 81 => h81 | 82 => h82 | 83 => h83 | 84 => h84 | 85 => h85 | 86 => h86 |
    87 => h87 | 88 => h88 | 89 => h89 | 90 => h90 | 91 => h91 | 92 => h92 | 93 => h93 | 94 => h94 | 95 => h95 | 96 =>
    h96 | 97 => h97 | 98 => h98 | 99 => h99 | 100 => h100 | 101 => h101 | 102 => h102 | 103 => h103 | 104 => h104 |
    105 => h105 | 106 => h106 | 107 => h107 | 108 => h108 | 109 => h109 | 110 => h110 | 111 => h111 | 112 => h112 |
    113 => h113 | 114 => h114 | 115 => h115 | 116 => h116 | 117 => h117 | 118 => h118 | 119 => h119 | 120 => h120 |
    121 => h121 | 122 => h122 | 123 => h123 | 124 => h124 | 125 => h125 | 126 => h126 | 127 => h127 | _ => d) = true := by
  simp only [Bool.and_eq_true, and_assoc] at h
  obtain ⟨
    g0, g1, g2, g3, g4, g5, g6, g7, g8, g9, g10, g11, g12, g13, g14, g15, g16, g17, g18, g19, g20, g21, g22, g23, g24,
    g25, g26, g27, g28, g29, g30, g31, g32, g33, g34, g35, g36, g37, g38, g39, g40, g41, g42, g43, g44, g45, g46, g47,
    g48, g49, g50, g51, g52, g53, g54, g55, g56, g57, g58, g59, g60, g61, g62, g63, g64, g65, g66, g67, g68, g69, g70,
    g71, g72, g73, g74, g75, g76, g77, g78, g79, g80, g81, g82, g83, g84, g85, g86, g87, g88, g89, g90, g91, g92, g93,
    g94, g95, g96, g97, g98, g99, g100, g101, g102, g103, g104, g105, g106, g107, g108, g109, g110, g111, g112, g113,
    g114, g115, g116, g117, g118, g119, g120, g121, g122, g123, g124, g125, g126, g127⟩ := h
  apply choice_128 (fun k w => P k w = true) x <;> assumption

end Cert.Table
-- ==== Proof.Table.lean ====
/- The kernel's 384 × 384 coefficient table: it carries one 3 × 3 matrix, transposed, 128 times along its diagonal, and
   words denoting zero (of either sign) everywhere else. The table has no formula in the program, so its entries are
   compared by evaluation, 128 at a time. -/
module

public import proofs.«01_k».proof.KernelIdeal
public import proofs.«01_k».proof.Proof.Choice

@[expose] public section

set_option Elab.async false

noncomputable section

namespace Cert.Table

/-- The word at row `a`, column `b` of a diagonal block: entry `(b mod 3, a mod 3)` of the matrix. -/
def mat (a b : ℕ) : ℕ := match a % 3, b % 3 with
  | 0, 0 => 0x3F31F8C5 | 1, 0 => 0x3E100E14 | 2, 0 => 0x3E280ED7
  | 0, 1 => 0x3D377A61 | 1, 1 => 0x3F5C1368 | 2, 1 => 0x3DC3A78C
  | 0, 2 => 0xBBB3968A | 1, 2 => 0x3B9F8B2F | _, _ => 0x3F80140B

/-- The test of the word `w` at position `i`: on the diagonal blocks it is the matrix's word, elsewhere a zero whatever
    its sign bit. -/
def good (i : ℕ) (w : BitVec 32) : Bool :=
  bif (i / 384 / 3).beq (i % 384 / 3) then w.toNat.beq (mat (i / 384) (i % 384)) else (Nat.land w.toNat 0x7FFFFFFF).beq 0

set_option maxHeartbeats 0 in
/-- Every entry passes its test, written by the three digits of its position. -/
theorem good_digits (i : ℕ) : i / 16384 < 9 →
    good (128 * (128 * (i / 16384) + i / 128 % 128) + i % 128) (Cert.KernelIdeal.lit2t i) = true := by
  apply choice_9 (fun x w => good (128 * (128 * x + i / 128 % 128) + i % 128) w = true) (i / 16384)
  all_goals
    refine (?_ : i / 128 % 128 < 128 → _) (Nat.mod_lt _ (by decide))
    apply choice_128 (fun x w => good (128 * (128 * _ + x) + i % 128) w = true) (i / 128 % 128)
  all_goals
    refine choice_128_test (fun x w => good (128 * (128 * _ + _) + x) w) (i % 128) ?_ (Nat.mod_lt _ (by decide))
    decide +kernel

/-- Every entry passes its test. -/
theorem all_good (a b : ℕ) (ha : a < 384) (hb : b < 384) :
    good (384 * a + b) (Cert.KernelIdeal.lit2t (384 * a + b)) = true := by
  have h := good_digits (384 * a + b) (by omega)
  rwa [show 128 * (128 * ((384 * a + b) / 16384) + (384 * a + b) / 128 % 128) + (384 * a + b) % 128 = 384 * a + b
    from by omega] at h

/-- On a diagonal block the table holds the matrix's word. -/
theorem entry_diag (a b : ℕ) (ha : a < 384) (hb : b < 384) (h : a / 3 = b / 3) :
    (Cert.KernelIdeal.lit2t (384 * a + b)).toNat = mat a b := by
  have hg := all_good a b ha hb
  unfold good at hg
  rw [show (384 * a + b) / 384 = a from by omega, show (384 * a + b) % 384 = b from by omega] at hg
  rw [show (a / 3).beq (b / 3) = true from by rw [Nat.beq_eq]; exact h] at hg
  exact Nat.beq_eq.mp hg

/-- Off the diagonal blocks the table holds a zero word. -/
theorem entry_off (a b : ℕ) (ha : a < 384) (hb : b < 384) (h : a / 3 ≠ b / 3) :
    Cert.KernelIdeal.lit2t (384 * a + b) = 0x00000000#32 ∨ Cert.KernelIdeal.lit2t (384 * a + b) = 0x80000000#32 := by
  have hg := all_good a b ha hb
  unfold good at hg
  rw [show (384 * a + b) / 384 = a from by omega, show (384 * a + b) % 384 = b from by omega] at hg
  rw [show (a / 3).beq (b / 3) = false from by rw [← Bool.not_eq_true, Nat.beq_eq]; exact h] at hg
  generalize Cert.KernelIdeal.lit2t (384 * a + b) = w at hg ⊢
  have hg' : w.toNat &&& 0x7FFFFFFF = 0 := Nat.beq_eq.mp hg
  have hw : w &&& 0x7FFFFFFF#32 = 0#32 := by
    apply BitVec.eq_of_toNat_eq
    rw [BitVec.toNat_and]
    exact hg'
  have hlow : ∀ i, i < 31 → w.getLsbD i = false := by
    intro i hi
    have hm : (0x7FFFFFFF#32).getLsbD i = true := by revert i; decide
    have := congrArg (fun v => v.getLsbD i) hw
    simpa [BitVec.getLsbD_and, hm] using this
  by_cases h31 : w.getLsbD 31 = true
  · right
    apply BitVec.eq_of_getLsbD_eq
    intro i hi
    by_cases h' : i < 31
    · rw [hlow i h']; revert i; decide
    · obtain rfl : i = 31 := by omega
      rw [h31]; rfl
  · left
    apply BitVec.eq_of_getLsbD_eq
    intro i hi
    by_cases h' : i < 31
    · rw [hlow i h']; simp
    · obtain rfl : i = 31 := by omega
      simpa using h31

end Cert.Table
-- ==== Proof.RefGather.lean ====
/- The reference's table lookup read at one pixel: three integer coordinates per pixel, wrapped at negative values the
   way array indexing wraps them, gathered from the 64 × 64 × 64 table of three channels. -/
module

public import proofs.«01_k».proof.Proof.Gen.ReferenceIdeal
public import Idealize.ShloMosaic.Lib.ValueIdx
public import Idealize.ShloMosaic.Lib.Pipeline.Value

@[expose] public section

noncomputable section

namespace Cert.Reference

open Cert.ReferenceIdeal Cert.ReferenceIdeal.Gen Idealize.ShloMosaic Idealize.ShloMosaic.ValueIdx

/-! ## Small broadcasts -/

/-- A broadcast scalar word array reads its word. -/
theorem splat_apply (v : BitVec 32) (i : S4147200.Idx) :
    broadcastInDim S4147200 ![] bcast_S_S4147200 (constantI S_ 32 v) i = v := rfl

/-- A column of one value per pixel spread over the three channels. -/
def spread (w : S4147200x1.Idx → EReal) : S4147200x3.Idx → EReal :=
  broadcastInDim S4147200x3 ![0, 1] bcast_S4147200x1_S4147200x3_0_1 w

theorem spread_apply (w : S4147200x1.Idx → EReal) (p : Fin 4147200) (k : Fin 3) : spread w (ix2 p k) = w (ix2 p 0) :=
  broadcastInDim_apply _ _ _ _ _ fun a => by
    match a with
    | ⟨0, _⟩ => rfl
    | ⟨1, _⟩ => rfl

/-! ## The lookup coordinates -/

/-- One coordinate per pixel as a column, a negative one moved up by the table's extent. -/
def wrapped (a : IVec S4147200 32) : IVec S4147200x1 32 :=
  broadcastInDim S4147200x1 ![0] bcast_S4147200_S4147200x1_0
    (select (cmpi .slt a (broadcastInDim S4147200 ![] bcast_S_S4147200 (constantI S_ 32 0#32)))
      (addi a (broadcastInDim S4147200 ![] bcast_S_S4147200 (constantI S_ 32 64#32))) a)

/-- A coordinate inside the table stays what it is. -/
theorem wrapped_apply (a : IVec S4147200 32) (p : Fin 4147200) (q : Fin 1) (n : ℕ) (hn : n ≤ 63)
    (h : a (ix1 p) = BitVec.ofNat 32 n) : wrapped a (ix2 p q) = BitVec.ofNat 32 n := by
  have hw : ∀ n ≤ 63, Scalar.select (IntOp.cmpi .slt (BitVec.ofNat 32 n) 0#32)
      (IntOp.addi (BitVec.ofNat 32 n) 64#32) (BitVec.ofNat 32 n) = BitVec.ofNat 32 n := by decide +kernel
  unfold wrapped
  rw [broadcastInDim_apply _ _ _ _ (ix1 p) fun b => by match b with | ⟨0, _⟩ => rfl]
  show Scalar.select (IntOp.cmpi .slt (a (ix1 p)) 0#32) (IntOp.addi (a (ix1 p)) 64#32) (a (ix1 p)) = _
  rw [h]
  exact hw n hn

/-- The three coordinate columns. -/
def columns (a b c : IVec S4147200 32) : List ((s : Shape) × (s.Idx → BitVec 32)) :=
  [⟨S4147200x1, wrapped a⟩, ⟨S4147200x1, wrapped b⟩, ⟨S4147200x1, wrapped c⟩]

/-- The three coordinates of every pixel side by side. -/
def triple (a b c : IVec S4147200 32) : IVec S4147200x3 32 :=
  concatenate S4147200x3 1 (columns a b c) concatenates_S4147200x1_S4147200x1_S4147200x1_S4147200x3_d1

theorem triple_apply (a b c : IVec S4147200 32) (p : Fin 4147200) (k : Fin 3) (x : IVec S4147200 32)
    (hx : (columns a b c)[k.val]'(k.isLt) = ⟨S4147200x1, wrapped x⟩) :
    triple a b c (ix2 p k) = wrapped x (ix2 p 0) := by
  unfold triple
  refine concatenate_apply_piece (t := S4147200x3) (1 : Fin 2) (columns a b c) _ (ix2 p k) k.val k.isLt S4147200x1 (wrapped x)
    hx rfl k.val ?_ (ix2 p 0) ?_ rfl
  · clear hx
    fin_cases k <;> rfl
  · intro e he
    match e with
    | ⟨0, _⟩ => rfl
    | ⟨1, _⟩ => exact absurd rfl he

/-! ## The gather -/

/-- The table's three channels at every pixel's coordinates. -/
def look (lut : S64x64x64x3.Idx → EReal) (a b c : IVec S4147200 32) : S4147200x3.Idx → EReal :=
  Host.gather gather_S64x64x64x3_S4147200x3_S4147200x3_1_012_n_n_012_1_1113 lut (triple a b c)

/-- The lookup's dimension numbers. -/
abbrev G : GatherDims S64x64x64x3 S4147200x3 S4147200x3 := gather_S64x64x64x3_S4147200x3_S4147200x3_1_012_n_n_012_1_1113

/-- The slice of pixel `p` starts, on each of the three table axes, at that coordinate. -/
theorem start_axis (idx : IVec S4147200x3 32) (p : Fin 4147200) (k : Fin 3) (e : Fin 3) (n : ℕ) (hn : n ≤ 63)
    (h : idx (ix2 p e) = BitVec.ofNat 32 n) : GatherDims.start G (ix2 p k) idx (e.castSucc : Fin 4) = n := by
  have hw : ∀ n ≤ 63, min (BitVec.ofNat 32 n).toInt.toNat 63 = n := by decide +kernel
  fin_cases e
  · change idx (ix2 p 0) = _ at h
    change GatherDims.start G (ix2 p k) idx (0 : Fin 4) = n
    unfold GatherDims.start
    rw [dif_pos (show (0 : Fin 4) ∈ GatherDims.startIndexMap G from by decide)]
    rw [show GatherDims.siIdx G (ix2 p k) ⟨List.idxOf (0 : Fin 4) (GatherDims.startIndexMap G), by decide⟩ = ix2 p 0 from by
      funext b
      match b with
      | ⟨0, _⟩ => rfl
      | ⟨1, _⟩ => rfl, h]
    exact hw n hn
  · change idx (ix2 p 1) = _ at h
    change GatherDims.start G (ix2 p k) idx (1 : Fin 4) = n
    unfold GatherDims.start
    rw [dif_pos (show (1 : Fin 4) ∈ GatherDims.startIndexMap G from by decide)]
    rw [show GatherDims.siIdx G (ix2 p k) ⟨List.idxOf (1 : Fin 4) (GatherDims.startIndexMap G), by decide⟩ = ix2 p 1 from by
      funext b
      match b with
      | ⟨0, _⟩ => rfl
      | ⟨1, _⟩ => rfl, h]
    exact hw n hn
  · change idx (ix2 p 2) = _ at h
    change GatherDims.start G (ix2 p k) idx (2 : Fin 4) = n
    unfold GatherDims.start
    rw [dif_pos (show (2 : Fin 4) ∈ GatherDims.startIndexMap G from by decide)]
    rw [show GatherDims.siIdx G (ix2 p k) ⟨List.idxOf (2 : Fin 4) (GatherDims.startIndexMap G), by decide⟩ = ix2 p 2 from by
      funext b
      match b with
      | ⟨0, _⟩ => rfl
      | ⟨1, _⟩ => rfl, h]
    exact hw n hn

/-- The lookup at a pixel whose three coordinates are `na`, `nb`, `nc` is the table's entry there. -/
theorem look_apply (lut : S64x64x64x3.Idx → EReal) (a b c : IVec S4147200 32) (p : Fin 4147200) (k : Fin 3)
    (na nb nc : ℕ) (ha : na ≤ 63) (hb : nb ≤ 63) (hc : nc ≤ 63) (ea : a (ix1 p) = BitVec.ofNat 32 na)
    (eb : b (ix1 p) = BitVec.ofNat 32 nb) (ec : c (ix1 p) = BitVec.ofNat 32 nc) :
    look lut a b c (ix2 p k)
      = lut (ix4 (⟨na, by omega⟩ : Fin 64) (⟨nb, by omega⟩ : Fin 64) (⟨nc, by omega⟩ : Fin 64) k) := by
  have ta : triple a b c (ix2 p 0) = BitVec.ofNat 32 na := (triple_apply a b c p 0 a rfl).trans (wrapped_apply a p 0 na ha ea)
  have tb : triple a b c (ix2 p 1) = BitVec.ofNat 32 nb := (triple_apply a b c p 1 b rfl).trans (wrapped_apply b p 0 nb hb eb)
  have tc : triple a b c (ix2 p 2) = BitVec.ofNat 32 nc := (triple_apply a b c p 2 c rfl).trans (wrapped_apply c p 0 nc hc ec)
  have hB : ∀ x : Fin 4, GatherDims.batchCoord G (ix2 p k) x = 0 := fun x =>
    GatherDims.batchCoord_eq_zero _ _ _ List.not_mem_nil
  have hO : ∀ x ∈ ([0, 1, 2] : List (Fin 4)), GatherDims.offCoord G (ix2 p k) x = 0 := fun x hx =>
    GatherDims.offCoord_eq_zero _ _ _ fun h => ((GatherDims.mem_sKept _ _).mp h).1 hx
  unfold look Host.gather
  congr 1
  funext x
  refine Fin.ext ?_
  show GatherDims.start G (ix2 p k) (triple a b c) x + GatherDims.batchCoord G (ix2 p k) x
      + GatherDims.offCoord G (ix2 p k) x = _
  rw [hB]
  match x with
  | ⟨0, _⟩ => exact congrArg₂ (fun u v => u + 0 + v) (start_axis _ p k 0 na ha ta) (hO 0 (by decide))
  | ⟨1, _⟩ => exact congrArg₂ (fun u v => u + 0 + v) (start_axis _ p k 1 nb hb tb) (hO 1 (by decide))
  | ⟨2, _⟩ => exact congrArg₂ (fun u v => u + 0 + v) (start_axis _ p k 2 nc hc tc) (hO 2 (by decide))
  | ⟨3, _⟩ =>
    have hS : GatherDims.start G (ix2 p k) (triple a b c) (3 : Fin 4) = 0 := by
      unfold GatherDims.start
      rw [dif_neg (show (3 : Fin 4) ∉ GatherDims.startIndexMap G from by decide)]
    have hK : GatherDims.offCoord G (ix2 p k) (3 : Fin 4) = k.val := by
      unfold GatherDims.offCoord
      rw [dif_pos ((GatherDims.mem_sKept G (3 : Fin 4)).mpr ⟨by decide, by decide⟩)]
      rfl
    exact (congrArg₂ (fun u v => u + 0 + v) hS hK).trans (by simp)

end Cert.Reference
-- ==== Proof.RefValue.lean ====
/- The reference's answer read at one pixel: with the identity table it is the pixel arithmetic of the matrices, the
   table's answer being each channel's own shaped value. -/
module

public import proofs.«01_k».proof.Proof.Gen.ReferenceIdeal.Run
public import proofs.«01_k».proof.Proof.RefGather
public import proofs.«01_k».proof.Proof.Pixel

@[expose] public section

noncomputable section

open scoped BigOperators

namespace Cert.Reference

open Cert.ReferenceIdeal Cert.ReferenceIdeal.Gen Cert.ReferenceIdeal.Value Idealize.ShloMosaic Idealize.ShloMosaic.ValueIdx
open Idealize.ShloMosaic.TcCoe Idealize.ShloMosaic.StableHlo Cert.Pixel

/-! ## Pixels -/

/-- Channel `k` of pixel number `p`, counted through images, rows and columns. -/
def pix (p : Fin 4147200) (k : Fin 3) : S2x1080x1920x3.Idx :=
  ix4 (⟨p.val / 2073600, by omega⟩ : Fin 2) (⟨p.val / 1920 % 1080, by omega⟩ : Fin 1080)
    (⟨p.val % 1920, by omega⟩ : Fin 1920) k

theorem eq_pix (j : S2x1080x1920x3.Idx) : ∃ p k, j = pix p k := by
  obtain ⟨a, b, c, d, rfl⟩ : ∃ (a : Fin 2) (b : Fin 1080) (c : Fin 1920) (d : Fin 3), j = ix4 a b c d :=
    ⟨_, _, _, _, eq_ix4 j⟩
  refine ⟨⟨a.val * 2073600 + b.val * 1920 + c.val, by omega⟩, d, ?_⟩
  unfold pix
  congr 1 <;> refine Fin.ext ?_ <;> simp only [] <;> omega

theorem pix_rowMajor (p : Fin 4147200) (k : Fin 3) : (S2x1080x1920x3.rowMajor (pix p k)).val = 3 * p.val + k.val := by
  rw [Shape.rowMajor_val_four]
  show ((p.val / 2073600 * 1080 + p.val / 1920 % 1080) * 1920 + p.val % 1920) * 3 + k.val = _
  omega

theorem pair_rowMajor (p : Fin 4147200) (k : Fin 3) : (S4147200x3.rowMajor (ix2 p k)).val = 3 * p.val + k.val := by
  rw [Shape.rowMajor_val_two]
  show p.val * 3 + k.val = _
  omega

/-- The image as one row of three channels per pixel. -/
theorem rows_apply (x : S2x1080x1920x3.Idx → EReal) (h : S2x1080x1920x3.ShapeCasts S4147200x3) (p : Fin 4147200) (k : Fin 3) :
    shapeCast S4147200x3 x h (ix2 p k) = x (pix p k) :=
  shapeCast_apply x h _ _ ((pix_rowMajor p k).trans (pair_rowMajor p k).symm)

/-- And back. -/
theorem image_apply (x : S4147200x3.Idx → EReal) (h : S4147200x3.ShapeCasts S2x1080x1920x3) (p : Fin 4147200) (k : Fin 3) :
    shapeCast S2x1080x1920x3 x h (pix p k) = x (ix2 p k) :=
  shapeCast_apply x h _ _ ((pair_rowMajor p k).trans (pix_rowMajor p k).symm)

/-! ## Matrices -/

/-- Entry `(a, b)` of the 3 × 3 matrix whose words are listed row by row. -/
def entries (lit : Fin 9 → BitVec 32) (a b : Fin 3) : EReal := Ideal.ofBits .f32 (lit ⟨3 * a.val + b.val, by omega⟩)

/-- The transposed constant matrix at `(i, k)`. -/
theorem transposed_apply (lit : Fin 9 → BitVec 32) (i k : Fin 3) :
    transpose S3x3 [1, 0] (fun i => FloatOps.ofBits (F := Ideal) .f32 (lit (S3x3.rowMajor i))) transposes_S3x3_S3x3_1_0 (ix2 i k)
      = entries lit k i := by
  rw [transpose_apply _ _ _ _ (ix2 k i) fun b => by match b with | ⟨0, _⟩ => rfl | ⟨1, _⟩ => rfl]
  show Ideal.ofBits .f32 (lit (S3x3.rowMajor (ix2 k i))) = _
  unfold entries
  congr 2
  refine Fin.ext ?_
  rw [Shape.rowMajor_val_two]
  show k.val * 3 + i.val = 3 * k.val + i.val
  omega

/-- The product of the image with a 3 × 3 matrix at one pixel. -/
theorem dot_apply (l : FVec Ideal S2x1080x1920x3 .f32) (r : FVec Ideal S3x3 .f32) (p : Fin 4147200) (k : Fin 3) :
    Host.dotGeneral dot_S2x1080x1920x3_S3x3_S2x1080x1920x3_3_0_012_1_n_n none l r (pix p k)
      = ∑ i : Fin 3, l (pix p i) * r (ix2 i k) := by
  unfold Host.dotGeneral
  rw [Ideal.dotGeneral_apply]
  refine Fintype.sum_equiv (contrEquiv1 dot_S2x1080x1920x3_S3x3_S2x1080x1920x3_3_0_012_1_n_n 3 rfl rfl) _ _ fun q => ?_
  congr 2
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl

/-- The product of the image with a transposed constant matrix at one pixel. -/
theorem dot_const_apply (l : FVec Ideal S2x1080x1920x3 .f32) (lit : Fin 9 → BitVec 32) (p : Fin 4147200) (k : Fin 3) :
    Host.dotGeneral (F := Ideal) dot_S2x1080x1920x3_S3x3_S2x1080x1920x3_3_0_012_1_n_n none l
      (transpose S3x3 [1, 0] (fun i => FloatOps.ofBits (F := Ideal) .f32 (lit (S3x3.rowMajor i))) transposes_S3x3_S3x3_1_0)
      (pix p k) = ∑ i : Fin 3, l (pix p i) * entries lit k i :=
  (dot_apply _ _ p k).trans (Finset.sum_congr rfl fun i _ => congrArg (l (pix p i) * ·) (transposed_apply lit i k))

/-! ## The interpolation as array operations -/

/-- Between `lo` and `hi` by the column of weights `w`. -/
def lerp (lo hi : FVec Ideal S4147200x3 .f32) (w : FVec Ideal S4147200x1 .f32) : FVec Ideal S4147200x3 .f32 :=
  addf (mulf lo (spread (subf (broadcastInDim S4147200x1 ![] bcast_S_S4147200x1 (constant S_ .f32 0x3F800000#32)) w)))
    (mulf hi (spread w))

theorem lerp_apply (lo hi : FVec Ideal S4147200x3 .f32) (w : FVec Ideal S4147200x1 .f32) (p : Fin 4147200) (k : Fin 3) :
    lerp lo hi w (ix2 p k) = lo (ix2 p k) * (1 - w (ix2 p 0)) + hi (ix2 p k) * w (ix2 p 0) := by
  show lo (ix2 p k) * spread _ (ix2 p k) + hi (ix2 p k) * spread w (ix2 p k) = _
  rw [spread_apply, spread_apply]
  show lo (ix2 p k) * (Ideal.ofBits .f32 0x3F800000#32 - w (ix2 p 0)) + _ = _
  rw [word_one]

section Run
variable (V0 : Valuation τ sig (Elt Ideal))

/-- The image argument. -/
abbrev image : FVec Ideal S2x1080x1920x3 .f32 := V0 (Proc.devRef .tc main_arg0)
/-- The table argument. -/
abbrev lut : FVec Ideal S64x64x64x3 .f32 := V0 (Proc.devRef .tc main_arg1)

theorem v237_eq : res_main_v237 V0
    = lerp (lerp (look (lut V0) (res_main_v11 V0) (res_main_v13 V0) (res_main_v15 V0))
          (look (lut V0) (res_main_v11 V0) (res_main_v13 V0) (res_main_v37 V0)) (res_main_v202 V0))
        (lerp (look (lut V0) (res_main_v11 V0) (res_main_v59 V0) (res_main_v15 V0))
          (look (lut V0) (res_main_v11 V0) (res_main_v81 V0) (res_main_v83 V0)) (res_main_v202 V0)) (res_main_v201 V0) := rfl

theorem v244_eq : res_main_v244 V0
    = lerp (lerp (look (lut V0) (res_main_v105 V0) (res_main_v13 V0) (res_main_v15 V0))
          (look (lut V0) (res_main_v127 V0) (res_main_v13 V0) (res_main_v129 V0)) (res_main_v202 V0))
        (lerp (look (lut V0) (res_main_v151 V0) (res_main_v153 V0) (res_main_v15 V0))
          (look (lut V0) (res_main_v175 V0) (res_main_v177 V0) (res_main_v179 V0)) (res_main_v202 V0)) (res_main_v201 V0) := rfl

/-! ## The channels before the table -/

/-- The pixel's three channels. -/
def channels (p : Fin 4147200) (i : Fin 3) : EReal := image V0 (pix p i)

theorem v5_apply (p : Fin 4147200) (k : Fin 3) :
    res_main_v5 V0 (ix2 p k) = entry (entries lit0) (channels V0 p) k * ((63 : ℝ) : EReal) := by
  unfold res_main_v5
  show shapeCast S4147200x3 _ _ (ix2 p k) * Ideal.ofBits .f32 0x427C0000#32 = _
  rw [rows_apply, word_63]
  show min (Ideal.ofBits .f32 0x3F800000#32) (max (Ideal.ofBits .f32 0x00000000#32) (Host.dotGeneral _ _ _ _ (pix p k))) * _ = _
  rw [word_one, word_zero]
  exact congrArg (fun v => min 1 (max 0 v) * ((63 : ℝ) : EReal)) (dot_const_apply (image V0) lit0 p k)

variable {V0} {p : Fin 4147200} {u : Fin 3 → ℝ}

/-- What is known of the pixel: its clipped channels are the reals `u` of the unit interval. -/
structure Known (V0 : Valuation τ sig (Elt Ideal)) (p : Fin 4147200) (u : Fin 3 → ℝ) : Prop where
  nonneg : ∀ k, 0 ≤ u k
  le_one : ∀ k, u k ≤ 1
  eq : ∀ k, entry (entries lit0) (channels V0 p) k = (u k : EReal)

theorem exists_known (V0 : Valuation τ sig (Elt Ideal)) (p : Fin 4147200) : ∃ u, Known V0 p u := by
  choose u h0 h1 he using fun k : Fin 3 => clip01_real (∑ i, channels V0 p i * entries lit0 k i)
  exact ⟨u, h0, h1, he⟩

theorem v6_apply (h : Known V0 p u) (k : Fin 3) :
    res_main_v6 V0 (ix2 p k) = Ideal.liftRound Int.floor ((u k : EReal) * ((63 : ℝ) : EReal)) := by
  show Ideal.liftRound Int.floor (res_main_v5 V0 (ix2 p k)) = _
  rw [v5_apply, h.eq]

theorem v7_apply (h : Known V0 p u) (k : Fin 3) : res_main_v7 V0 (ix2 p k) = ((frac (u k) : ℝ) : EReal) := by
  show @HSub.hSub EReal EReal EReal _ (res_main_v5 V0 (ix2 p k)) (res_main_v6 V0 (ix2 p k)) = _
  rw [v6_apply h, v5_apply, h.eq, ← EReal.coe_mul, Ideal.liftRound_coe, ← EReal.coe_sub]
  rfl

theorem v9_apply (h : Known V0 p u) (k : Fin 3) : res_main_v9 V0 (ix2 p k) = BitVec.ofNat 32 (cell (u k)) := by
  show IntOp.minsi 62#32 (IntOp.maxsi 0#32 (Ideal.fptosi 32 (res_main_v6 V0 (ix2 p k)))) = _
  rw [v6_apply h]
  exact cell_word (h.nonneg k) (h.le_one k)

/-- Column `k` of the three, as one value per pixel. -/
theorem column_apply {α : Type} (x : S4147200x3.Idx → α) (k : Fin 3) (hs : S4147200x3.Slices ![0, k.val] S4147200x1)
    (hc : S4147200x1.ShapeCasts S4147200) (p : Fin 4147200) :
    shapeCast S4147200 (extractStridedSlice S4147200x1 ![0, k.val] x hs) hc (ix1 p) = x (ix2 p k) := by
  rw [shapeCast_apply _ _ _ (ix2 p 0) (by
    rw [Shape.rowMajor_val_two, Shape.rowMajor_val_one]
    show p.val * 1 + 0 = p.val
    omega)]
  exact extractStridedSlice_apply _ _ _ _ _ fun a => by
    match a with
    | ⟨0, _⟩ => exact (Nat.zero_add _).symm
    | ⟨1, _⟩ => rfl

/-- The position within the cell, as a column. -/
theorem weight_apply (x : S4147200x3.Idx → EReal) (k : Fin 3) (hs : S4147200x3.Slices ![0, k.val] S4147200x1)
    (p : Fin 4147200) : extractStridedSlice S4147200x1 ![0, k.val] x hs (ix2 p 0) = x (ix2 p k) :=
  extractStridedSlice_apply _ _ _ _ _ fun a => by
    match a with
    | ⟨0, _⟩ => exact (Nat.zero_add _).symm
    | ⟨1, _⟩ => rfl

theorem v11_apply (h : Known V0 p u) : res_main_v11 V0 (ix1 p) = BitVec.ofNat 32 (cell (u 0)) :=
  (column_apply _ 0 _ _ p).trans (v9_apply h 0)
theorem v13_apply (h : Known V0 p u) : res_main_v13 V0 (ix1 p) = BitVec.ofNat 32 (cell (u 1)) :=
  (column_apply _ 1 _ _ p).trans (v9_apply h 1)
theorem v15_apply (h : Known V0 p u) : res_main_v15 V0 (ix1 p) = BitVec.ofNat 32 (cell (u 2)) :=
  (column_apply _ 2 _ _ p).trans (v9_apply h 2)

theorem v200_apply (h : Known V0 p u) : res_main_v200 V0 (ix2 p 0) = ((frac (u 0) : ℝ) : EReal) :=
  (weight_apply _ 0 _ p).trans (v7_apply h 0)
theorem v201_apply (h : Known V0 p u) : res_main_v201 V0 (ix2 p 0) = ((frac (u 1) : ℝ) : EReal) :=
  (weight_apply _ 1 _ p).trans (v7_apply h 1)
theorem v202_apply (h : Known V0 p u) : res_main_v202 V0 (ix2 p 0) = ((frac (u 2) : ℝ) : EReal) :=
  (weight_apply _ 2 _ p).trans (v7_apply h 2)

/-- The next node's number. -/
theorem next_word {a : IVec S4147200 32} {n : ℕ} (h : a (ix1 p) = BitVec.ofNat 32 n) :
    addi a (broadcastInDim S4147200 ![] bcast_S_S4147200 (constantI S_ 32 1#32)) (ix1 p) = BitVec.ofNat 32 (n + 1) := by
  show a (ix1 p) + 1#32 = _
  rw [h, BitVec.ofNat_add]

/-! ## The table's answer -/

/-- The table is the identity: entry `(a, b, c)` holds the three nodes. -/
def IdentityTable (t : S64x64x64x3.Idx → EReal) : Prop :=
  ∀ (a b c : Fin 64) (k : Fin 3), t (ix4 a b c k) = node ((![a, b, c] : Fin 3 → Fin 64) k).val

/-- A corner of the pixel's cell in the identity table. -/
theorem corner_apply (h : Known V0 p u) {t : S64x64x64x3.Idx → EReal} (ht : IdentityTable t) (i j l : Fin 2) {a b c : IVec S4147200 32}
    (ea : a (ix1 p) = BitVec.ofNat 32 (cell (u 0) + i.val)) (eb : b (ix1 p) = BitVec.ofNat 32 (cell (u 1) + j.val))
    (ec : c (ix1 p) = BitVec.ofNat 32 (cell (u 2) + l.val)) (k : Fin 3) :
    look t a b c (ix2 p k) = node (cell (u k) + ((![i, j, l] : Fin 3 → Fin 2) k).val) := by
  have b0 := cell_le (u 0)
  have b1 := cell_le (u 1)
  have b2 := cell_le (u 2)
  rw [look_apply t a b c p k _ _ _ (by omega) (by omega) (by omega) ea eb ec, ht]
  fin_cases k <;> rfl

/-- The interpolated answer in each channel is the channel's shaped value. -/
theorem answer_apply (h : Known V0 p u) (ht : IdentityTable (lut V0)) (k : Fin 3) :
    lerp (res_main_v237 V0) (res_main_v244 V0) (res_main_v200 V0) (ix2 p k) = ((shaped (u k) : ℝ) : EReal) := by
  have x0 := v11_apply h
  have y0 := v13_apply h
  have z0 := v15_apply h
  have x1 := next_word x0
  have y1 := next_word y0
  have z1 := next_word z0
  rw [← trilerp_shaped u k, v237_eq, v244_eq]
  simp only [lerp_apply, v200_apply h, v201_apply h, v202_apply h]
  rw [corner_apply h ht 0 0 0 x0 y0 z0 k, corner_apply h ht 0 0 1 x0 y0 (c := res_main_v37 V0) z1 k,
    corner_apply h ht 0 1 0 x0 (b := res_main_v59 V0) y1 z0 k,
    corner_apply h ht 0 1 1 x0 (b := res_main_v81 V0) y1 (c := res_main_v83 V0) z1 k,
    corner_apply h ht 1 0 0 (a := res_main_v105 V0) x1 y0 z0 k,
    corner_apply h ht 1 0 1 (a := res_main_v127 V0) x1 y0 (c := res_main_v129 V0) z1 k,
    corner_apply h ht 1 1 0 (a := res_main_v151 V0) x1 (b := res_main_v153 V0) y1 z0 k,
    corner_apply h ht 1 1 1 (a := res_main_v175 V0) x1 (b := res_main_v177 V0) y1 (c := res_main_v179 V0) z1 k]
  rfl

/-! ## The result -/

/-- The reference's value at channel `k` of pixel `p`. -/
theorem v257_apply (g : Fin 3 → EReal)
    (hg : ∀ j, lerp (res_main_v237 V0) (res_main_v244 V0) (res_main_v200 V0) (ix2 p j) = g j) (k : Fin 3) :
    res_main_v257 V0 (pix p k) = clip01 (∑ i, (∑ j, g j * entries lit1 i j) * entries lit2 k i) := by
  show min (Ideal.ofBits .f32 0x3F800000#32) (max (Ideal.ofBits .f32 0x00000000#32)
    (Host.dotGeneral (F := Ideal) dot_S2x1080x1920x3_S3x3_S2x1080x1920x3_3_0_012_1_n_n none
      (Host.dotGeneral (F := Ideal) dot_S2x1080x1920x3_S3x3_S2x1080x1920x3_3_0_012_1_n_n none
        (shapeCast S2x1080x1920x3 (lerp (res_main_v237 V0) (res_main_v244 V0) (res_main_v200 V0))
          shapeCasts_S4147200x3_S2x1080x1920x3)
        (transpose S3x3 [1, 0] (fun i => FloatOps.ofBits (F := Ideal) .f32 (lit1 (S3x3.rowMajor i))) transposes_S3x3_S3x3_1_0))
      (transpose S3x3 [1, 0] (fun i => FloatOps.ofBits (F := Ideal) .f32 (lit2 (S3x3.rowMajor i))) transposes_S3x3_S3x3_1_0)
      (pix p k))) = _
  rw [word_one, word_zero]
  refine congrArg (fun v => min 1 (max 0 v)) ((dot_const_apply _ lit2 p k).trans ?_)
  refine Finset.sum_congr rfl fun i _ => congrArg (· * entries lit2 k i) ((dot_const_apply _ lit1 p i).trans ?_)
  exact Finset.sum_congr rfl fun j _ => congrArg (· * entries lit1 i j) ((image_apply _ _ p j).trans (hg j))

/-- The term the reference's run leaves in its result buffer. -/
def result (V0 : Valuation τ sig (Elt Ideal)) : FVec Ideal S2x1080x1920x3 .f32 :=
  select (res_main_v259 V0) (mulf (broadcastInDim S2x1080x1920x3 ![] bcast_S_S2x1080x1920x3 (constant S_ .f32 0x414EB852#32)) (res_main_v257 V0))
    (subf (mulf (broadcastInDim S2x1080x1920x3 ![] bcast_S_S2x1080x1920x3 (constant S_ .f32 0x3F870A3D#32))
      (Host.powf (select (res_main_v259 V0) (broadcastInDim S2x1080x1920x3 ![] bcast_S_S2x1080x1920x3 (id (constant S_ .f32 0x3F800000#32))) (res_main_v257 V0))
        (broadcastInDim S2x1080x1920x3 ![] bcast_S_S2x1080x1920x3 (constant S_ .f32 0x3ED55555#32))))
      (broadcastInDim S2x1080x1920x3 ![] bcast_S_S2x1080x1920x3 (constant S_ .f32 0x3D6147AE#32)))

theorem result_transfer (V0 : Valuation τ sig (Elt Ideal)) (j : S2x1080x1920x3.Idx) :
    result V0 j = transfer (res_main_v257 V0 j) := by
  unfold transfer
  rfl

/-- Every word of the second and third matrices is a number. -/
theorem lit1_real (a b : Fin 3) : ∃ r : ℝ, entries lit1 a b = r := by
  refine word_real _ ?_
  revert a b
  decide

theorem lit2_real (a b : Fin 3) : ∃ r : ℝ, entries lit2 a b = r := by
  refine word_real _ ?_
  revert a b
  decide

/-- With the identity table the reference computes, at every pixel, the kernel's pixel value. -/
theorem result_apply (V0 : Valuation τ sig (Elt Ideal)) (ht : IdentityTable (lut V0)) (p : Fin 4147200) (k : Fin 3) :
    result V0 (pix p k) = kernelPixel (entries lit0) (entries lit1) (entries lit2) (channels V0 p) k := by
  obtain ⟨u, h⟩ := exists_known V0 p
  rw [pixel_eq _ _ _ lit1_real lit2_real _ u h.nonneg h.eq (fun j => ((shaped (u j) : ℝ) : EReal)) (fun _ => rfl) k,
    result_transfer, v257_apply _ (answer_apply h ht)]
  rfl

end Run

end Cert.Reference
-- ==== Proof.HostTables.lean ====
/- The host-made tables read entry by entry: the product of two 3 × 3 matrices, the identity matrix, and the table that
   carries one 3 × 3 matrix along its diagonal. -/
module

public import proofs.«01_k».proof.Proof.HostPrefix
public import proofs.«01_k».proof.Proof.Table
public import proofs.«01_k».proof.Proof.RefValue

@[expose] public section

noncomputable section

open scoped BigOperators

namespace Cert.KernelSide

open Cert.KernelIdeal Cert.KernelIdeal.Gen Idealize.ShloMosaic Idealize.ShloMosaic.ValueIdx
open Idealize.ShloMosaic.TcCoe Idealize.SL.Sem Cert.Lanes Cert.Pixel Cert.Reference

/-! ## The matrix product -/

/-- A constant matrix read at an entry. -/
theorem constant_apply (lit : Fin 9 → BitVec 32) (a b : Fin 3) :
    Ideal.ofBits .f32 (lit (S3x3.rowMajor (ix2 a b))) = entries lit a b := by
  unfold entries
  refine congrArg (fun n => Ideal.ofBits .f32 (lit n)) (Fin.ext ?_)
  rw [Shape.rowMajor_val_two]
  show a.val * 3 + b.val = 3 * a.val + b.val
  omega

/-- The left factor does not depend on the column. -/
theorem left_apply (x : FVec Ideal S3x3 .f32) (a k b : Fin 3) :
    broadcastInDim S3x3x3 ![0, 1, 2] bcast_S3x3x1_S3x3x3_0_1_2 (broadcastInDim S3x3x1 ![0, 1] bcast_S3x3_S3x3x1_0_1 x) (ix3 a k b)
      = x (ix2 a k) := by
  rw [broadcastInDim_apply _ bcast_S3x3x1_S3x3x3_0_1_2 _ _ (ix3 a k (0 : Fin 1)) fun d => by
      match d with | ⟨0, _⟩ => rfl | ⟨1, _⟩ => rfl | ⟨2, _⟩ => rfl]
  exact broadcastInDim_apply _ bcast_S3x3_S3x3x1_0_1 x _ _ fun d => by
      match d with | ⟨0, _⟩ => rfl | ⟨1, _⟩ => rfl

/-- The right factor does not depend on the row. -/
theorem right_apply (x : FVec Ideal S3x3 .f32) (a k b : Fin 3) :
    broadcastInDim S3x3x3 ![0, 1, 2] bcast_S1x3x3_S3x3x3_0_1_2 (broadcastInDim S1x3x3 ![1, 2] bcast_S3x3_S1x3x3_1_2 x) (ix3 a k b)
      = x (ix2 k b) := by
  rw [broadcastInDim_apply _ bcast_S1x3x3_S3x3x3_0_1_2 _ _ (ix3 (0 : Fin 1) k b) fun d => by
      match d with | ⟨0, _⟩ => rfl | ⟨1, _⟩ => rfl | ⟨2, _⟩ => rfl]
  exact broadcastInDim_apply _ bcast_S3x3_S1x3x3_1_2 x _ _ fun d => by
      match d with | ⟨0, _⟩ => rfl | ⟨1, _⟩ => rfl

theorem product_apply (a b : Fin 3) : product (ix2 a b) = ∑ k, entries lit0 a k * entries lit1 k b := by
  unfold product
  have hr : S3x3x3.Reduces [1] S3x3 := by decide
  rw [hostReduceAdd_apply, Ideal.hostReduceAdd_single _ hr]
  rw [show constant (F := Ideal) S_ .f32 0x00000000#32 (Shape.Idx.first h_S_) = 0 from word_zero, zero_add]
  refine Finset.sum_congr rfl fun (k : Fin 3) _ => ?_
  rw [show hr.lift (ix2 a b) k = ix3 a k b from funext fun d => by
    match d with | ⟨0, _⟩ => rfl | ⟨1, _⟩ => rfl | ⟨2, _⟩ => rfl]
  show @HMul.hMul EReal EReal EReal _ _ _ = _
  rw [left_apply, right_apply]
  show Ideal.ofBits .f32 _ * Ideal.ofBits .f32 _ = _
  rw [constant_apply, constant_apply]

/-! ## The identity matrix -/

theorem eye_apply (q q' : Fin 128) : eye (ix2 q q') = if q = q' then 1 else 0 := by
  have h : ∀ q q' : Fin 128, IntOp.cmpi .eq (IntOp.addi (BitVec.ofNat 32 q.val) 0#32) (BitVec.ofNat 32 q'.val)
      = if q = q' then 1#1 else 0#1 := by decide +kernel
  show (((IntOp.cmpi .eq (IntOp.addi (BitVec.ofNat 32 q.val) 0#32) (BitVec.ofNat 32 q'.val)).toNat : ℝ) : EReal) = _
  rw [h]
  split <;> simp

/-! ## The matrix along the diagonal -/

theorem blocks_apply (e : FVec Ideal S128x128 .f32) (w : FVec Ideal S3x3 .f32) (q q' : Fin 128) (i j : Fin 3) :
    blocks e w (ix2 (lane q i) (lane q' j)) = e (ix2 q q') * w (ix2 i j) := by
  unfold blocks
  rw [shapeCast_apply _ _ _ (ix4 q i q' j) (by
    rw [Shape.rowMajor_val_four, Shape.rowMajor_val_two]
    show ((q.val * 3 + i.val) * 128 + q'.val) * 3 + j.val = (3 * q.val + i.val) * 384 + (3 * q'.val + j.val)
    omega)]
  show @HMul.hMul EReal EReal EReal _ _ _ = _
  rw [broadcastInDim_apply _ bcast_S128x1x128x1_S128x3x128x3_0_1_2_3 _ _ (ix4 q (0 : Fin 1) q' (0 : Fin 1)) fun d => by
      match d with | ⟨0, _⟩ => rfl | ⟨1, _⟩ => rfl | ⟨2, _⟩ => rfl | ⟨3, _⟩ => rfl,
    broadcastInDim_apply _ bcast_S128x128_S128x1x128x1_0_2 e _ (ix2 q q') fun d => by
      match d with | ⟨0, _⟩ => rfl | ⟨1, _⟩ => rfl,
    broadcastInDim_apply _ bcast_S1x3x1x3_S128x3x128x3_0_1_2_3 _ _ (ix4 (0 : Fin 1) i (0 : Fin 1) j) fun d => by
      match d with | ⟨0, _⟩ => rfl | ⟨1, _⟩ => rfl | ⟨2, _⟩ => rfl | ⟨3, _⟩ => rfl,
    broadcastInDim_apply _ bcast_S3x3_S1x3x1x3_1_3 w _ (ix2 i j) fun d => by
      match d with | ⟨0, _⟩ => rfl | ⟨1, _⟩ => rfl]

/-! ## The three arrays the grid reads -/

variable (m : (ℓ : Loc nD τ sig) → Buf (Elt Ideal) ℓ) (c : Dev nD)

/-- The image as launched. -/
def photo : S2x1080x1920x3.Idx → EReal := m ((c : Thread nD τ).loc main_arg0)

/-- The number of pixel `q` of row `r`. -/
def number (r : Fin 32400) (q : Fin 128) : Fin 4147200 := ⟨128 * r.val + q.val, by omega⟩

theorem eq_number (p : Fin 4147200) : ∃ r q, p = number r q :=
  ⟨⟨p.val / 128, by omega⟩, ⟨p.val % 128, by omega⟩, Fin.ext (by
    show p.val = 128 * (p.val / 128) + p.val % 128
    omega)⟩

/-- Lane `(q, i)` of row `r` sits where channel `i` of its pixel sits. -/
theorem number_rowMajor (r : Fin 32400) (q : Fin 128) (i : Fin 3) :
    (S2x1080x1920x3.rowMajor (pix (number r q) i)).val = (S32400x384.rowMajor (ix2 r (lane q i))).val := by
  rw [Shape.rowMajor_val_two]
  refine (pix_rowMajor (number r q) i).trans ?_
  show 3 * (128 * r.val + q.val) + i.val = r.val * 384 + (3 * q.val + i.val)
  omega

theorem rows_apply (r : Fin 32400) (q : Fin 128) (i : Fin 3) :
    V m c main_call0_v0 (ix2 r (lane q i)) = photo m c (pix (number r q) i) := by
  rw [rows_eq]
  exact shapeCast_apply _ _ _ _ (number_rowMajor r q i)

/-- The first matrix's words, as the reference lists them. -/
theorem mat_eq (q : Fin 128) (i j : Fin 3) :
    BitVec.ofNat 32 (Table.mat (lane q i).val (lane q j).val)
      = Cert.ReferenceIdeal.lit0 ⟨3 * j.val + i.val, by omega⟩ := by
  unfold Table.mat
  rw [show (lane q i).val % 3 = i.val from by show (3 * q.val + i.val) % 3 = i.val; omega,
    show (lane q j).val % 3 = j.val from by show (3 * q.val + j.val) % 3 = j.val; omega]
  revert i j
  decide

theorem first_diag (q : Fin 128) (i j : Fin 3) :
    V m c main_call0_cst_1 (ix2 (lane q i) (lane q j)) = entries Cert.ReferenceIdeal.lit0 j i := by
  rw [first_eq]
  have hp : (S384x384.rowMajor (ix2 (lane q i) (lane q j))).val = 384 * (lane q i).val + (lane q j).val := by
    rw [Shape.rowMajor_val_two]
    show (lane q i).val * 384 + (lane q j).val = _
    omega
  show Ideal.ofBits .f32 (lit2t (S384x384.rowMajor (ix2 (lane q i) (lane q j))).val) = _
  rw [hp]
  have h := Table.entry_diag (lane q i).val (lane q j).val (lane q i).isLt (lane q j).isLt
    (by show (3 * q.val + i.val) / 3 = (3 * q.val + j.val) / 3; omega)
  unfold entries
  rw [← mat_eq q i j, ← h, BitVec.ofNat_toNat, BitVec.setWidth_eq]

theorem first_off (q q' : Fin 128) (i j : Fin 3) (hq : q' ≠ q) :
    V m c main_call0_cst_1 (ix2 (lane q' i) (lane q j)) = (0 : EReal) := by
  rw [first_eq]
  have hp : (S384x384.rowMajor (ix2 (lane q' i) (lane q j))).val = 384 * (lane q' i).val + (lane q j).val := by
    rw [Shape.rowMajor_val_two]
    show (lane q' i).val * 384 + (lane q j).val = _
    omega
  show Ideal.ofBits .f32 (lit2t (S384x384.rowMajor (ix2 (lane q' i) (lane q j))).val) = _
  rw [hp]
  have hne : (lane q' i).val / 3 ≠ (lane q j).val / 3 := by
    have : q'.val ≠ q.val := fun h => hq (Fin.ext h)
    show (3 * q'.val + i.val) / 3 ≠ (3 * q.val + j.val) / 3
    omega
  rcases Table.entry_off _ _ (lane q' i).isLt (lane q j).isLt hne with h | h
  · rw [h]; exact word_zero
  · rw [h]; exact word_negzero

theorem second_apply (q q' : Fin 128) (i j : Fin 3) :
    V m c main_call0_v14 (ix2 (lane q' i) (lane q j))
      = (if q' = q then 1 else 0) * ∑ k, entries lit0 j k * entries lit1 k i := by
  rw [second_eq]
  refine (blocks_apply _ _ q' q i j).trans ?_
  rw [eye_apply, transpose_apply _ _ _ _ (ix2 j i) fun b => by match b with | ⟨0, _⟩ => rfl | ⟨1, _⟩ => rfl]
  rw [product_apply]

end Cert.KernelSide
-- ==== Proof.Payload.lean ====
/- One block of the kernel's arithmetic read at one lane: two products with 384 × 384 tables, with clipping and the
   table's closed form between them and the final curve after. -/
module

public import proofs.«01_k».proof.Proof.Gen.KernelIdeal.Skeleton
public import proofs.«01_k».proof.Proof.Pixel
public import Idealize.ShloMosaic.Lib.ValueIdx
public import Idealize.ShloMosaic.Lib.Pipeline.Value

@[expose] public section

noncomputable section

open scoped BigOperators

namespace Cert.KernelSide

open Cert.KernelIdeal Cert.KernelIdeal.Gen Idealize.ShloMosaic Idealize.ShloMosaic.ValueIdx Cert.Pixel

/-- A block times a table at one lane. -/
theorem matmul_apply (l : FVec Ideal S648x384 .f32) (r : FVec Ideal S384x384 .f32) (i : Fin 648) (b : Fin 384) :
    matmul dot_S648x384_S384x384_S648x384_1_0_0_1_n_n (some .fp32) l r (constant S648x384 .f32 0x00000000#32) (ix2 i b)
      = ∑ k : Fin 384, l (ix2 i k) * r (ix2 k b) := by
  refine (Ideal.matmul_constant_zero_apply _ _ l r _).trans ?_
  refine Fintype.sum_equiv (contrEquiv1 dot_S648x384_S384x384_S648x384_1_0_0_1_n_n 384 rfl rfl) _ _ fun q => ?_
  congr 2
  · funext a
    match a with
    | ⟨0, _⟩ => rfl
    | ⟨1, _⟩ => rfl
  · funext a
    match a with
    | ⟨0, _⟩ => rfl
    | ⟨1, _⟩ => rfl

/-- The table's closed form over a block of clipped products, as the kernel computes it. -/
def toned (y : FVec Ideal S648x384 .f32) : FVec Ideal S648x384 .f32 :=
  let a := mulf (minimumf (broadcast S648x384 (Scalar.ofBits .f32 0x3F800000#32))
    (maximumf (broadcast S648x384 (Scalar.ofBits .f32 0x00000000#32)) y)) (broadcast S648x384 (Scalar.ofBits .f32 0x427C0000#32))
  mulf (addf (minimumf (floor a) (broadcast S648x384 (Scalar.ofBits .f32 0x42780000#32))) (subf a (floor a)))
    (broadcast S648x384 (Named.named κ "inv_63" 0x3C820821#32))

theorem toned_apply (y : FVec Ideal S648x384 .f32) (i : S648x384.Idx) : toned y i = tone (clip01 (y i)) := by
  have h0 : Scalar.ofBits (F := Ideal) .f32 0x00000000#32 = (0 : EReal) := word_zero
  have h1 : Scalar.ofBits (F := Ideal) .f32 0x3F800000#32 = (1 : EReal) := word_one
  have h2 : Scalar.ofBits (F := Ideal) .f32 0x427C0000#32 = ((63 : ℝ) : EReal) := word_63
  have h3 : Scalar.ofBits (F := Ideal) .f32 0x42780000#32 = ((62 : ℝ) : EReal) := word_62
  unfold toned
  rw [h0, h1, h2, h3]
  rfl

/-- The clipping and the final curve over a block, as the kernel computes them. -/
def curved (y : FVec Ideal S648x384 .f32) : FVec Ideal S648x384 .f32 :=
  let v := minimumf (broadcast S648x384 (Scalar.ofBits .f32 0x3F800000#32))
    (maximumf (broadcast S648x384 (Scalar.ofBits .f32 0x00000000#32)) y)
  let s := cmpf .ole v (broadcast S648x384 (Scalar.ofBits .f32 0x3B4D2E1C#32))
  select s (mulf (broadcast S648x384 (Scalar.ofBits .f32 0x414EB852#32)) v)
    (subf (mulf (broadcast S648x384 (Scalar.ofBits .f32 0x3F870A3D#32))
        (powf (select s (broadcast S648x384 (Scalar.ofBits .f32 0x3F800000#32)) v) (broadcast S648x384 (Scalar.ofBits .f32 0x3ED55555#32))))
      (broadcast S648x384 (Scalar.ofBits .f32 0x3D6147AE#32)))

theorem curved_apply (y : FVec Ideal S648x384 .f32) (i : S648x384.Idx) : curved y i = transfer (clip01 (y i)) := by
  have hc : clip01 (y i) = min (Ideal.ofBits .f32 0x3F800000#32) (max (Ideal.ofBits .f32 0x00000000#32) (y i)) := by
    rw [word_one, word_zero]
    rfl
  rw [hc]
  unfold transfer
  rfl

/-- The block's arithmetic is the two products with those steps between and after. -/
theorem payload_eq (x : FVec Ideal S648x384 .f32) (d e : FVec Ideal S384x384 .f32) :
    k0_pay1 x d e = curved (matmul dot_S648x384_S384x384_S648x384_1_0_0_1_n_n (some .fp32)
      (toned (matmul dot_S648x384_S384x384_S648x384_1_0_0_1_n_n (some .fp32) x d (constant S648x384 .f32 0x00000000#32)))
      e (constant S648x384 .f32 0x00000000#32)) := by
  unfold k0_pay1
  simp only [shapeCast_self]
  rfl

theorem payload_apply (x : FVec Ideal S648x384 .f32) (d e : FVec Ideal S384x384 .f32) (i : Fin 648) (b : Fin 384) :
    k0_pay1 (F := Ideal) x d e (ix2 i b) = transfer (clip01 (∑ k : Fin 384,
      tone (clip01 (∑ k' : Fin 384, x (ix2 i k') * d (ix2 k' k))) * e (ix2 k b))) := by
  rw [payload_eq, curved_apply, matmul_apply]
  refine congrArg (fun s => transfer (clip01 s)) (Finset.sum_congr rfl fun k _ => ?_)
  rw [toned_apply, matmul_apply]

end Cert.KernelSide
-- ==== Proof.KernelValue.lean ====
/- The kernel's whole result: every block is the block of one array of rows, and that array read as an image is the pixel
   arithmetic of the three matrices. -/
module

public import proofs.«01_k».proof.Proof.HostTables
public import proofs.«01_k».proof.Proof.Payload
public import Idealize.ShloMosaic.Lib.Pipeline.ValueKit.Geometry

@[expose] public section

noncomputable section

open scoped BigOperators

namespace Cert.KernelSide

open Cert.KernelIdeal Cert.KernelIdeal.Gen Idealize.ShloMosaic Idealize.ShloMosaic.ValueIdx
open Idealize.ShloMosaic.TcCoe Idealize.SL.Sem Cert.Lanes Cert.Pixel Cert.Reference
open Idealize.ShloMosaic.Pipeline (Dat)

variable (m : (ℓ : Loc nD τ sig) → Buf (Elt Ideal) ℓ) (c : Dev nD)

/-! ## One array of rows -/

/-- The three arrays the grid reads. -/
def rows : FVec Ideal S32400x384 .f32 := V m c main_call0_v0
def first : FVec Ideal S384x384 .f32 := V m c main_call0_cst_1
def second : FVec Ideal S384x384 .f32 := V m c main_call0_v14

/-- Lane `b` of row `r` of the result, from the rows of the image and the two tables. -/
def laneValue (r : Fin 32400) (b : Fin 384) : EReal :=
  transfer (clip01 (∑ k : Fin 384,
    tone (clip01 (∑ k' : Fin 384, rows m c (ix2 r k') * first m c (ix2 k' k)))
      * second m c (ix2 k b)))

/-- The result as rows. -/
def resultRows : S32400x384.Idx → EReal := fun i => laneValue m c (i 0) (i 1)

/-- Where the blocks sit: the image's and the result's move down with the grid point, the tables' stay. -/
theorem idx_facts : ∀ t : Fin cfg0.N, win0_0.index t 0 = t.val ∧ win0_0.index t 1 = 0 ∧ win0_1.index t 0 = 0
    ∧ win0_1.index t 1 = 0 ∧ win0_2.index t 0 = 0 ∧ win0_2.index t 1 = 0 ∧ win0_3.index t 0 = t.val ∧ win0_3.index t 1 = 0 :=
  (by decide +kernel : ∀ t : Fin grid0.N, _)

/-- Row `i` of the block at point `t`. -/
def rowAt (t : Fin cfg0.N) (i : Fin 648) : Fin 32400 :=
  ⟨t.val * 648 + i.val, by have h : t.val < 50 := t.isLt; omega⟩

theorem block0 (t : Fin cfg0.N) (i : Fin 648) (k : Fin 384) :
    (iblk m c 0 t : FVec Ideal S648x384 .f32) (ix2 i k) = rows m c (ix2 (rowAt t i) k) := by
  obtain ⟨h0, h1, -⟩ := idx_facts t
  unfold iblk
  refine congrArg (V m c main_call0_v0) (funext fun a => Fin.ext ?_)
  match a with
  | ⟨0, _⟩ => exact (win0_0.rect_emb_val t _ 0).trans (by rw [h0]; rfl)
  | ⟨1, _⟩ => exact win0_0.rect_emb_val_of_index_zero t 1 h1 _

theorem block1 (t : Fin cfg0.N) : (iblk m c 1 t : FVec Ideal S384x384 .f32) = first m c := by
  obtain ⟨-, -, h0, h1, -⟩ := idx_facts t
  unfold iblk
  refine funext fun y => congrArg (V m c main_call0_cst_1) (funext fun a => Fin.ext ?_)
  match a with
  | ⟨0, _⟩ => exact win0_1.rect_emb_val_of_index_zero t 0 h0 y
  | ⟨1, _⟩ => exact win0_1.rect_emb_val_of_index_zero t 1 h1 y

theorem block2 (t : Fin cfg0.N) : (iblk m c 2 t : FVec Ideal S384x384 .f32) = second m c := by
  obtain ⟨-, -, -, -, h0, h1, -⟩ := idx_facts t
  unfold iblk
  refine funext fun y => congrArg (V m c main_call0_v14) (funext fun a => Fin.ext ?_)
  match a with
  | ⟨0, _⟩ => exact win0_2.rect_emb_val_of_index_zero t 0 h0 y
  | ⟨1, _⟩ => exact win0_2.rect_emb_val_of_index_zero t 1 h1 y

theorem out_eq (x : FVec Ideal S648x384 .f32) (d e : FVec Ideal S384x384 .f32) :
    out0_3 (F := Ideal) x d e = k0_pay1 (F := Ideal) x d e := by
  have hz : (![0, 0] : Fin 2 → ℕ) = fun _ => 0 := by funext a; match a with | ⟨0, _⟩ => rfl | ⟨1, _⟩ => rfl
  unfold out0_3
  rw [View.canon_unit_zero hz, View.ld_unit_zero hz, View.ld_unit_zero hz, View.ld_unit_zero hz]

/-- The block's arithmetic over row blocks of `x` gives the lanes of the result. -/
theorem payload_lane (t : Fin cfg0.N) (x : FVec Ideal S648x384 .f32) (d e : FVec Ideal S384x384 .f32) (i : Fin 648) (k : Fin 384)
    (hx : ∀ k', x (ix2 i k') = rows m c (ix2 (rowAt t i) k')) (hd : d = first m c) (he : e = second m c) :
    out0_3 (F := Ideal) x d e (ix2 i k) = laneValue m c (rowAt t i) k := by
  subst hd he
  rw [out_eq, payload_apply]
  unfold laneValue
  simp only [hx]

/-- What point `t` leaves at lane `k` of its block's row `i`. -/
theorem left_at (t : Fin cfg0.N) (i : Fin 648) (k : Fin 384) :
    ((dats m 0 c).after 3 t : FVec Ideal S648x384 .f32) (ix2 i k) = laneValue m c (rowAt t i) k :=
  (congrFun (after0_3 m c t) (ix2 i k)).trans
    (payload_lane m c t (iblk m c 0 t) (iblk m c 1 t) (iblk m c 2 t) i k (block0 m c t i) (block1 m c t) (block2 m c t))

/-- Where lane `k` of row `i` of the block at point `t` sits in the result. -/
theorem place (t : Fin cfg0.N) (i : Fin 648) (k : Fin 384) :
    (((cfg0.win 3).blk t).view.emb (ix2 i k) : S32400x384.Idx) = ix2 (rowAt t i) k := by
  obtain ⟨-, -, -, -, -, -, h0, h1⟩ := idx_facts t
  funext a
  refine Fin.ext ?_
  match a with
  | ⟨0, _⟩ => exact (win0_3.rect_emb_val t _ 0).trans (by rw [h0]; rfl)
  | ⟨1, _⟩ => exact win0_3.rect_emb_val_of_index_zero t 1 h1 _

/-- Every row belongs to a block that is written back. -/
theorem covered : (cfg0.win 3).Covers := by decide +kernel

/-- What point `t` leaves is its block of the result. -/
theorem left_block (t : Fin cfg0.N) (y : S648x384.Idx) :
    ((dats m 0 c).after 3 t : FVec Ideal S648x384 .f32) y = resultRows m c (((cfg0.win 3).blk t).view.emb y) := by
  obtain ⟨i, k, rfl⟩ : ∃ (i : Fin 648) (k : Fin 384), y = ix2 i k := ⟨_, _, eq_ix2 y⟩
  exact (left_at m c t i k).trans (congrArg (resultRows m c) (place t i k)).symm

/-- After the grid the output array is the result as rows. -/
theorem final_rows : (dats m 0 c).arrAt 3 cfg0.N = resultRows m c :=
  (dats m 0 c).arrAt_eq_of_covers 3 (resultRows m c) covered fun t _ y => left_block m c t y

end Cert.KernelSide
-- ==== Proof.KernelResult.lean ====
/- The kernel's result as an image: at every pixel the arithmetic of the three matrices on that pixel's channels; and the
   run that ends with it. -/
module

public import proofs.«01_k».proof.Proof.KernelValue

@[expose] public section

noncomputable section

open scoped BigOperators

namespace Cert.KernelSide

open Cert.KernelIdeal Cert.KernelIdeal.Gen Idealize.ShloMosaic Idealize.ShloMosaic.ValueIdx
open Idealize.ShloMosaic.TcCoe Idealize.SL.Sem Cert.Lanes Cert.Pixel Cert.Reference

variable (m : (ℓ : Loc nD τ sig) → Buf (Elt Ideal) ℓ) (ρ : Dev nD → PrngReg) (c : Dev nD)

/-! ## One lane -/

/-- The first product at lane `(q, j)` of row `r`, clipped, is the pixel's channel `j` after the first matrix. -/
theorem first_product (r : Fin 32400) (q : Fin 128) (j : Fin 3) :
    clip01 (∑ k', rows m c (ix2 r k') * first m c (ix2 k' (lane q j)))
      = entry (entries Cert.ReferenceIdeal.lit0) (fun i => photo m c (pix (number r q) i)) j := by
  rw [sum_block (fun k' => rows m c (ix2 r k')) (fun k' => first m c (ix2 k' (lane q j))) q
    fun q' i hq => first_off m c q q' i j hq]
  unfold entry
  refine congrArg clip01 (Finset.sum_congr rfl fun i _ => ?_)
  exact congrArg₂ (fun a b : EReal => a * b) (rows_apply m c r q i) (first_diag m c q i j)

theorem second_off (q q' : Fin 128) (i j : Fin 3) (hq : q' ≠ q) : second m c (ix2 (lane q' i) (lane q j)) = 0 := by
  refine (second_apply m c q q' i j).trans ?_
  rw [if_neg hq, zero_mul]

theorem second_diag (q : Fin 128) (i j : Fin 3) :
    second m c (ix2 (lane q i) (lane q j)) = ∑ k, entries lit0 j k * entries lit1 k i := by
  refine (second_apply m c q q i j).trans ?_
  rw [if_pos rfl, one_mul]

theorem lane_pixel (r : Fin 32400) (q : Fin 128) (ch : Fin 3) :
    laneValue m c r (lane q ch) = kernelPixel (entries Cert.ReferenceIdeal.lit0) (entries lit1) (entries lit0)
      (fun i => photo m c (pix (number r q) i)) ch := by
  unfold laneValue kernelPixel
  rw [sum_block (fun k => tone (clip01 (∑ k', rows m c (ix2 r k') * first m c (ix2 k' k))))
    (fun k => second m c (ix2 k (lane q ch))) q fun q' i hq => second_off m c q q' i ch hq]
  refine congrArg (fun s => transfer (clip01 s)) (Finset.sum_congr rfl fun j _ => ?_)
  rw [first_product, second_diag]

/-! ## The image -/

/-- The result as an image. -/
def answer : S2x1080x1920x3.Idx → EReal := shapeCast S2x1080x1920x3 (resultRows m c) shapeCasts_S32400x384_S2x1080x1920x3

theorem answer_apply (p : Fin 4147200) (ch : Fin 3) :
    answer m c (pix p ch) = kernelPixel (entries Cert.ReferenceIdeal.lit0) (entries lit1) (entries lit0)
      (fun i => photo m c (pix p i)) ch := by
  obtain ⟨r, q, rfl⟩ := eq_number p
  exact (shapeCast_apply (resultRows m c) _ _ (ix2 r (lane q ch)) (number_rowMajor r q ch).symm).trans (lane_pixel m c r q ch)

/-- Each window has an array of its own. -/
theorem spec_inj : Function.Injective (Pipeline.arrRef spec0) := by decide

/-- The operation after the grid turns the rows into the image. -/
theorem tail_eq : Pipeline.afterTail₀ cfgs (dats m) 0 (V0 m) [hostOps1] c main_v0 = answer m c := by
  unfold Pipeline.afterTail₀
  show StableHlo.after hostOps1 _ _ = _
  after_reads_simp
  have h : Pipeline.withArrays spec0 c (V0 m c) (fun w => (dats m 0 c).arrAt w cfg0.N) (Proc.devRef .tc main_call0_v15)
      = resultRows m c :=
    (Pipeline.withArrays_arr spec0 spec_inj c (V0 m c) (fun w => (dats m 0 c).arrAt w cfg0.N) 3).trans (final_rows m c)
  exact congrArg (fun x => shapeCast S2x1080x1920x3 x shapeCasts_S32400x384_S2x1080x1920x3) h

/-- The kernel's run ends with that image and the arguments as launched. -/
theorem run_answer : θ_run (defs (F := Ideal)) (onTc (τ := τ) (main (F := Ideal))) ⟨m, fun _ => 0, ρ⟩ fun r => ∀ c : Dev nD,
    r.2.mem ((c : Thread nD τ).loc main_v0) = answer m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelSide
-- ==== Proof.Lut.lean ====
/- What the precondition says of the table: entry `(a, b, c)` of the identity table holds the three grid values
   `a / 63`, `b / 63`, `c / 63`. -/
module

public import proofs.«01_k».proof.Proof.Gen.Pre_identity_lut
public import proofs.«01_k».proof.Proof.Pixel
public import Idealize.ShloMosaic.Lib.Pipeline.Value

@[expose] public section

noncomputable section

namespace Cert.Lut

open Cert.Pre_identity_lut Cert.Pre_identity_lut.Gen Idealize.ShloMosaic Idealize.ShloMosaic.ValueIdx Cert.Pixel

/-- The grid before its last node, as the program spells it. -/
def inner : FVec Ideal S63 .f32 :=
  addf
    (mulf (broadcastInDim S63 ![0] bcast_S1_S63_0 (shapeCast S1 (id (constant (F := Ideal) S_ .f32 0x00000000#32)) shapeCasts_S_S1))
      (subf (broadcastInDim S63 ![] bcast_S_S63 (constant S_ .f32 0x3F800000#32))
        (Host.divf (sitofp .f32 (iotaInDim S63 32 0)) (broadcastInDim S63 ![] bcast_S_S63 (constant S_ .f32 0x427C0000#32)))))
    (mulf (broadcastInDim S63 ![0] bcast_S1_S63_0 (shapeCast S1 (id (constant (F := Ideal) S_ .f32 0x3F800000#32)) shapeCasts_S_S1))
      (Host.divf (sitofp .f32 (iotaInDim S63 32 0)) (broadcastInDim S63 ![] bcast_S_S63 (constant S_ .f32 0x427C0000#32))))

theorem inner_apply (i : Fin 63) : inner (ix1 i) = node i.val := by
  show Ideal.ofBits .f32 0x00000000#32 * (Ideal.ofBits .f32 0x3F800000#32
      - Ideal.div (((BitVec.ofNat 32 i.val).toInt : ℝ) : EReal) (Ideal.ofBits .f32 0x427C0000#32))
    + Ideal.ofBits .f32 0x3F800000#32 * Ideal.div (((BitVec.ofNat 32 i.val).toInt : ℝ) : EReal) (Ideal.ofBits .f32 0x427C0000#32) = _
  have hi : ∀ i : Fin 63, (BitVec.ofNat 32 i.val).toInt = (i.val : ℤ) := by decide +kernel
  rw [word_zero, word_one, word_63, hi, zero_mul, zero_add, one_mul, Ideal.div_coe (by norm_num), ← EReal.coe_mul]
  unfold node
  congr 1
  push_cast
  ring

/-- The whole grid. -/
def grid : FVec Ideal S64 .f32 := fn_linspace (constant S_ .f32 0x00000000#32) (constant S_ .f32 0x3F800000#32)

theorem grid_eq : grid = concatenate S64 0
    [⟨S63, inner⟩, ⟨S1, broadcastInDim S1 ![] bcast_S_S1 (id (constant (F := Ideal) S_ .f32 0x3F800000#32))⟩]
    concatenates_S63_S1_S64_d0 := rfl

theorem grid_apply (i : Fin 64) : grid (ix1 i) = node i.val := by
  rw [grid_eq]
  by_cases h : i.val < 63
  · refine (concatenate_pair_apply_left (t := S64) (0 : Fin 1) inner _ _ (ix1 i) rfl (ix1 (⟨i.val, h⟩ : Fin 63)) fun b => ?_).trans
      (inner_apply ⟨i.val, h⟩)
    match b with
    | ⟨0, _⟩ => rfl
  · have hi : i.val = 63 := by omega
    refine (concatenate_pair_apply_right (t := S64) (s₂ := S1) (0 : Fin 1) inner _ _ (ix1 i) rfl rfl (ix1 (0 : Fin 1)) (fun b hb => ?_) ?_).trans ?_
    · match b with
      | ⟨0, _⟩ => exact absurd rfl hb
    · show 0 + 63 = i.val
      omega
    · show Ideal.ofBits .f32 0x3F800000#32 = _
      rw [word_one, hi]
      unfold node
      norm_num

/-- The grid along each of the three axes, as one channel each. -/
def channel : Fin 3 → FVec Ideal S64x64x64x1 .f32
  | 0 => broadcastInDim S64x64x64x1 ![0, 1, 2] bcast_S64x64x64_S64x64x64x1_0_1_2 (broadcastInDim S64x64x64 ![0] bcast_S64_S64x64x64_0 grid)
  | 1 => broadcastInDim S64x64x64x1 ![0, 1, 2] bcast_S64x64x64_S64x64x64x1_0_1_2 (broadcastInDim S64x64x64 ![1] bcast_S64_S64x64x64_1 grid)
  | 2 => broadcastInDim S64x64x64x1 ![0, 1, 2] bcast_S64x64x64_S64x64x64x1_0_1_2 (broadcastInDim S64x64x64 ![2] bcast_S64_S64x64x64_2 grid)

theorem deep_apply (x : FVec Ideal S64x64x64 .f32) (a b c : Fin 64) :
    broadcastInDim S64x64x64x1 ![0, 1, 2] bcast_S64x64x64_S64x64x64x1_0_1_2 x (ix4 a b c 0) = x (ix3 a b c) :=
  broadcastInDim_apply _ _ _ _ _ fun e => by
    match e with
    | ⟨0, _⟩ => rfl
    | ⟨1, _⟩ => rfl
    | ⟨2, _⟩ => rfl

theorem channel_apply (a b c : Fin 64) (k : Fin 3) :
    channel k (ix4 a b c 0) = node ((![a, b, c] : Fin 3 → Fin 64) k).val := by
  fin_cases k
  · change channel 0 (ix4 a b c 0) = node a.val
    unfold channel
    refine (deep_apply _ a b c).trans ((broadcastInDim_apply ![0] bcast_S64_S64x64x64_0 grid (ix3 a b c) (ix1 a) fun e => ?_).trans (grid_apply a))
    match e with | ⟨0, _⟩ => rfl
  · change channel 1 (ix4 a b c 0) = node b.val
    unfold channel
    refine (deep_apply _ a b c).trans ((broadcastInDim_apply ![1] bcast_S64_S64x64x64_1 grid (ix3 a b c) (ix1 b) fun e => ?_).trans (grid_apply b))
    match e with | ⟨0, _⟩ => rfl
  · change channel 2 (ix4 a b c 0) = node c.val
    unfold channel
    refine (deep_apply _ a b c).trans ((broadcastInDim_apply ![2] bcast_S64_S64x64x64_2 grid (ix3 a b c) (ix1 c) fun e => ?_).trans (grid_apply c))
    match e with | ⟨0, _⟩ => rfl

/-- The three channels, listed. -/
def pieces : List ((s : Shape) × (s.Idx → EReal)) :=
  [⟨S64x64x64x1, channel 0⟩, ⟨S64x64x64x1, channel 1⟩, ⟨S64x64x64x1, channel 2⟩]

/-- The identity table the precondition compares with. -/
def table : FVec Ideal S64x64x64x3 .f32 :=
  concatenate S64x64x64x3 3 pieces concatenates_S64x64x64x1_S64x64x64x1_S64x64x64x1_S64x64x64x3_d3

theorem table_apply (a b c : Fin 64) (k : Fin 3) :
    table (ix4 a b c k) = node ((![a, b, c] : Fin 3 → Fin 64) k).val := by
  unfold table
  refine (concatenate_apply_piece (t := S64x64x64x3) (3 : Fin 4) pieces _ (ix4 a b c k) k.val k.isLt S64x64x64x1 (channel k)
    ?_ rfl k.val ?_ (ix4 a b c 0) ?_ rfl).trans (channel_apply a b c k)
  · fin_cases k <;> rfl
  · fin_cases k <;> rfl
  · intro e he
    match e with
    | ⟨0, _⟩ => rfl
    | ⟨1, _⟩ => rfl
    | ⟨2, _⟩ => rfl
    | ⟨3, _⟩ => exact absurd rfl he

/-- Under the precondition the table argument is the identity table. -/
theorem lut_apply (x : FVec Ideal S2x1080x1920x3 .f32) (t : FVec Ideal S64x64x64x3 .f32)
    (h : Cert.Pre_identity_lut.fn (F := Ideal) x t = fun _ => 1#1) (a b c : Fin 64) (k : Fin 3) :
    t (ix4 a b c k) = node ((![a, b, c] : Fin 3 → Fin 64) k).val := by
  have h' : BitVec.ofBool (decide (t (ix4 a b c k) = table (ix4 a b c k))) = 1#1 := congrFun h (ix4 a b c k)
  rw [← table_apply a b c k]
  by_contra hne
  rw [decide_eq_false hne] at h'
  exact absurd h' (by decide)

end Cert.Lut
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_identity_lut
public import proofs.«01_k».proof.Proof.KernelResult
public import proofs.«01_k».proof.Proof.Lut
public import Idealize.ShloMosaic.Adequacy
public import Idealize.ShloMosaic.Init

@[expose] public section

noncomputable section

namespace Cert.Proof

open Idealize.ShloMosaic Idealize.SL.Sem Cert.Kernel

/-- The reference leaves its arguments unchanged and no semaphore raised. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0 :=
  (θ_run _ _ _).mono (fun r h => ⟨fun c => (h c).2, sem_eq_zero_of_no_sems rfl _⟩) (Cert.ReferenceIdeal.Value.run m g)

/-- The constant matrices of the kernel's second table are the reference's second and third matrices. -/
theorem middle_matrix : Cert.KernelIdeal.lit1 = Cert.ReferenceIdeal.lit1 := funext (by decide)
theorem last_matrix : Cert.KernelIdeal.lit0 = Cert.ReferenceIdeal.lit2 := funext (by decide)

/-- From the same arguments, the table being the identity one, the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_identity_lut (hPre_identity_lut := Cert.Pre_identity_lut.Gen.facts) m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.Reference.result (StableHlo.launchContents m' c) = Cert.KernelSide.answer m c := by
  have ht : Cert.Reference.IdentityTable (Cert.Reference.lut (StableHlo.launchContents m' c)) := by
    intro a b d k
    exact (congrFun h1 _).trans (Cert.Lut.lut_apply _ _ (hpre c) a b d k)
  funext j
  obtain ⟨p, k, rfl⟩ := Cert.Reference.eq_pix j
  refine (Cert.Reference.result_apply _ ht p k).trans (Eq.trans ?_ (Cert.KernelSide.answer_apply m c p k).symm)
  rw [middle_matrix, last_matrix]
  exact congrArg (fun x => Cert.Pixel.kernelPixel _ _ _ x k) (funext fun i => congrFun h0 (Cert.Reference.pix p i))

/-- The kernel and the reference end with one image. -/
theorem same_image : Cert.algebraic_KernelIdeal_ReferenceIdeal_pre_identity_lut (hKernelIdeal := Cert.KernelIdeal.Gen.facts)
    (hReferenceIdeal := Cert.ReferenceIdeal.Gen.facts) (hPre_identity_lut := Cert.Pre_identity_lut.Gen.facts) := by
  intro m g m' g' hpre hargs
  refine ⟨Cert.KernelSide.answer m, Cert.KernelSide.run_answer m g, ?_⟩
  exact (θ_run _ _ _).mono
    (fun r h c => ⟨((h c).1).trans (result_eq m m' hpre c (hargs c).1 (hargs c).2), (h c).2⟩) (Cert.ReferenceIdeal.Value.run m' g')

theorem claim : Cert.Claim := ⟨Cert.Kernel.Gen.facts, Cert.KernelIdeal.Gen.facts, Cert.ReferenceIdeal.Gen.facts, Cert.Pre_identity_lut.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  IdealRules.named_const.statement Cert.KernelIdeal.κ "inv_63" .f32 0x3C820821#32 ((1 / 63 : ℝ) : EReal) rfl,
  same_image⟩

end Cert.Proof

end
